-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1536, 1]⟩ ⟨2, ![3072, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S12x128 : Shape := ⟨2, ![12, 128]⟩
abbrev S2x16x128 : Shape := ⟨3, ![2, 16, 128]⟩
abbrev S2 : Shape := ⟨1, ![2]⟩
abbrev S_ : Shape := ⟨0, ![]⟩
abbrev S768x768 : Shape := ⟨2, ![768, 768]⟩
abbrev S768 : Shape := ⟨1, ![768]⟩
abbrev S6x128 : Shape := ⟨2, ![6, 128]⟩
abbrev S1x6x128 : Shape := ⟨3, ![1, 6, 128]⟩
abbrev S1 : Shape := ⟨1, ![1]⟩
abbrev S1x12x128 : Shape := ⟨3, ![1, 12, 128]⟩
abbrev S1536x1 : Shape := ⟨2, ![1536, 1]⟩

abbrev nBuf : Space → Nat
  | .hbm => 3
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S12x128, .f32⟩
  | .hbm, ⟨2, _⟩ => ⟨S1536x1, .f32⟩
  | .local _ .vmem, ⟨0, _⟩ => ⟨S1536x768, .f32⟩
  | .local _ .vmem, ⟨1, _⟩ => ⟨S12x128, .f32⟩
  | .local _ .vmem, ⟨2, _⟩ => ⟨S2x16x128, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v19 : BitVec 32 := Scalar.muli v2 c2_i32_15
  let v20 : BitVec 32 := Scalar.addi c0_i32_16 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_17 : BitVec 32 := 1#32
  let v21 : BitVec 32 := Scalar.muli v6 c1_i32_17
  let v22 : BitVec 32 := Scalar.addi v20 v21
  v22.toNat
def k0_dev3 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v38 : BitVec 32 := Scalar.muli v2 c2_i32_30
  let v39 : BitVec 32 := Scalar.addi c0_i32_31 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_32 : BitVec 32 := 1#32
  let v40 : BitVec 32 := Scalar.muli v6 c1_i32_32
  let v41 : BitVec 32 := Scalar.addi v39 v40
  v41.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S3072x1536 : Shape := ⟨2, ![3072, 1536]⟩
abbrev S_ : Shape := ⟨0, ![]⟩
abbrev S3072 : Shape := ⟨1, ![3072]⟩
abbrev S3072x1 : Shape := ⟨2, ![3072, 1]⟩

abbrev nBuf : Space → Nat
  | .hbm => 4
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S3072, .f32⟩
  | .hbm, ⟨3, _⟩ => ⟨S3072x1, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Slots.lean ====
/-
  The kernel's places and contents: the device each device pairs with, the six row groups of the exchange buffer, the four
  slots of it that transfers read and write, and the contents every slot is held at.

  The exchange buffer has two planes of sixteen rows. Plane 0 holds the device's own row maxima, plane 1 the ones its
  pair sends; rows 0-5 of a plane are the first half's, rows 6-11 the second half's, rows 12-15 are never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.ValueKit.Geometry
public import Idealize.ShloMosaic.Lib.Tactic

@[expose] public section

noncomputable section

namespace Cert.KernelIdeal.Pair

open Cert.KernelIdeal Cert.KernelIdeal.Gen
open Idealize.ShloMosaic
open Idealize.ShloMosaic.TcCoe
open Idealize.SL Idealize.SL.RA Idealize.SL.BI
open Idealize.SL.Sem

variable {F : FTy → Type} [FloatOps F]

/-! ## The pairing -/

/-- Device `c = (i, j)` of the 2 × 2 mesh (number `2 i + j`) exchanges with `(i, 1 - j)`. -/
def peer (c : Dev nD) : Dev nD :=
  ⟨2 * (c.val / 2) + 1 - c.val % 2, by have := c.isLt; revert this; generalize c.val = v; decide +revert⟩
/-- The pairing is its own inverse. -/
theorem peer_peer (c : Dev nD) : peer (peer c) = c := by revert c; decide
/-- The device the barrier signal names is the pair. -/
theorem dev1_eq (c : Dev nD) : (⟨k0_dev1 c, k0_dev1_lt c⟩ : Dev nD) = peer c := Fin.ext (k0_dev1_eq c)
/-- The device the first transfer names is the pair. -/
theorem dev2_eq (c : Dev nD) : (⟨k0_dev2 c, k0_dev2_lt c⟩ : Dev nD) = peer c := Fin.ext (k0_dev2_eq c)
/-- The device the second transfer names is the pair. -/
theorem dev3_eq (c : Dev nD) : (⟨k0_dev3 c, k0_dev3_lt c⟩ : Dev nD) = peer c := Fin.ext (k0_dev3_eq c)
/-- The pairing as a permutation of the devices. -/
def swap : Dev nD ≃ Dev nD := ⟨peer, peer, peer_peer, peer_peer⟩

/-! ## Memrefs and semaphores -/

/-- The staged block of `x`. -/
abbrev xM : Memref sig .tc .vmem S1536x768 .f32 := Memref.whole cc0_stg0_0
/-- The staged result. -/
abbrev oM : Memref sig .tc .vmem S12x128 .f32 := Memref.whole cc0_stg1_0
/-- The exchange buffer. -/
abbrev bM : Memref sig .tc .vmem S2x16x128 .f32 := Memref.whole cc0_scratch0

/-- Half `h` of plane `p` lies inside the buffer. -/
theorem inb_slot (p h : Fin 2) : ∀ a, (![p.val, 6 * h.val, 0] : Fin 3 → Nat) a + S1x6x128.size a ≤ S2x16x128.size a := by
  revert p h; decide
/-- The rectangle of half `h` of plane `p`. -/
abbrev slotR (p h : Fin 2) : Rect S2x16x128 :=
  Rect.unit (s := S2x16x128) ![p.val, 6 * h.val, 0] S1x6x128.size (inb_slot p h)
/-- Half `h` of plane `p`: transfers read the halves of plane 0 and land in those of plane 1. -/
abbrev slotM (p h : Fin 2) : Memref sig .tc .vmem S6x128 .f32 :=
  (bM.slice (slotR p h) (fun _ => rfl)).squeeze S6x128 squeezes_S1x6x128_S6x128

/-- The barrier semaphore. -/
abbrev barS : Sem sig := (SemArray.scalar (sig.barrier 0 rfl) : Sems sig S_).sem
theorem inb_sem (h : Fin 2) : ∀ a, (![h.val] : Fin 1 → Nat) a + S1.size a ≤ S2.size a := by revert h; decide
/-- The semaphore the own transfer of half `h` credits on the sender. -/
abbrev sndS (h : Fin 2) : DmaSem sig :=
  ((cc0_scratch1.slice (Rect.unit (s := S2) ![h.val] S1.size (inb_sem h))).squeeze S_ squeezes_S1_S_).sem
/-- The semaphore the pair's transfer of half `h` credits on the receiver. -/
abbrev rcvS (h : Fin 2) : DmaSem sig :=
  ((cc0_scratch2.slice (Rect.unit (s := S2) ![h.val] S1.size (inb_sem h))).squeeze S_ squeezes_S1_S_).sem

/-- What a transfer of one half credits. -/
abbrev N : ℕ := (slotM 1 0).view.dmaCredit
theorem N_pos : 0 < N := View.dmaCredit_pos _ (by decide)

/-! ## The row groups of the exchange buffer -/

/-- The number of the row group an element of the exchange buffer is in: three groups of (at most) six rows per plane. -/
def key (i : S2x16x128.Idx) : ℕ := 3 * (i 0).val + (i 1).val / 6
/-- Row group `k`. -/
def grp (k : Fin 6) : Finset S2x16x128.Idx := Finset.univ.filter fun i => key i = k.val

theorem mem_grp {k : Fin 6} {i : S2x16x128.Idx} : i ∈ grp k ↔ key i = k.val := by simp [grp]

/-- The row group of half `h` of plane `p`. -/
def gi (p h : Fin 2) : Fin 6 := ⟨3 * p.val + h.val, by omega⟩

/-- Two row groups share no element. -/
theorem grp_disjoint : ∀ t ∈ (Finset.univ : Finset (Fin 6)), ∀ t' ∈ (Finset.univ : Finset (Fin 6)), t ≠ t' → Disjoint (grp t) (grp t') :=
  fun t _ t' _ h => Finset.disjoint_left.mpr fun i h1 h2 => h (Fin.ext ((mem_grp.mp h1).symm.trans (mem_grp.mp h2)))

/-- The row groups are the whole buffer. -/
theorem grp_univ : (Finset.univ : Finset (Fin 6)).biUnion grp = Finset.univ := by
  ext i
  simp only [Finset.mem_biUnion, Finset.mem_univ, true_and, iff_true]
  have h0 : (i 0).val < 2 := (i 0).isLt
  have h1 : (i 1).val < 16 := (i 1).isLt
  exact ⟨⟨key i, by unfold key; omega⟩, mem_grp.mpr rfl⟩

/-- The rectangle of half `h` of plane `p` is its row group. -/
theorem slotR_set (p h : Fin 2) : (slotR p h).set = grp (gi p h) := by
  ext i
  rw [Rect.mem_set_unit, mem_grp]
  have h0 : (i 0).val < 2 := (i 0).isLt
  have h1 : (i 1).val < 16 := (i 1).isLt
  have h2 : (i 2).val < 128 := (i 2).isLt
  have hp := p.isLt
  have hh := h.isLt
  unfold key gi
  constructor
  · intro H
    have H0 := H 0
    have H1 := H 1
    simp [S1x6x128] at H0 H1
    dsimp only; omega
  · intro H a
    dsimp only at H
    match a with
    | 0 => simp [S1x6x128]; omega
    | 1 => simp [S1x6x128]; omega
    | 2 => simpa [S1x6x128] using h2
/-- The elements of a slot are its row group. -/
theorem slotM_set (p h : Fin 2) : (slotM p h).view.set = grp (gi p h) :=
  (View.set_reshape _ _).trans ((View.set_slice_whole cc0_scratch0 _).trans (slotR_set p h))
/-- An access to a slot's rectangle reaches its row group. -/
theorem access_set (p h : Fin 2) : (bM.access (slotR p h) : View sig .tc _ _ _).set = grp (gi p h) :=
  (View.set_slice_whole cc0_scratch0 _).trans (slotR_set p h)

/-! ## Contents -/

variable (m : (ℓ : Loc nD τ sig) → Buf (Elt F) ℓ)

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

theorem inb_half (h : Fin 2) : ∀ a, (![768 * h.val, 0] : Fin 2 → Nat) a + S768x768.size a ≤ S1536x768.size a := by
  revert h; decide
/-- The 768 rows of half `h` of device `c`'s block. -/
def half (c : Dev nD) (h : Fin 2) : Vec F S768x768 .f32 :=
  xM.view.readAt (Elt F) (Rect.unit (s := S1536x768) ![768 * h.val, 0] S768x768.size (inb_half h)).toLoadRect (xstg m c)

/-- The row maxima of half `h` of device `c`'s block, as stored. -/
def part (c : Dev nD) : Fin 2 → FVec F S1x6x128 .f32
  | 0 => k0_pay2 (half m c 0)
  | 1 => k0_pay3 (half m c 1)

/-- Row `r`, lane `l` of a one-plane block of six rows. -/
abbrev at6 (r : ℕ) (l : Fin 128) : S1x6x128.Idx
  | 0 => (0 : Fin 1)
  | 1 => (⟨r % 6, Nat.mod_lt _ (by decide)⟩ : Fin 6)
  | 2 => l

/-- The word of row `r`, lane `l` of device `d`'s row maxima. -/
def word (d : Dev nD) (r : ℕ) (l : Fin 128) : Elt F .f32 := part m d ⟨r / 6 % 2, Nat.mod_lt _ (by decide)⟩ (at6 r l)

/-- What device `c`'s exchange buffer ends at, off the unused rows: its own row maxima in plane 0, its pair's in plane 1. -/
def final (c : Dev nD) : S2x16x128.Idx → Elt F .f32 :=
  fun i => word m (if (i 0).val = 0 then c else peer c) (i 1).val (i 2)

/-- Where element `y` of half `h` of plane `p` lies in the exchange buffer. -/
theorem slot_emb (p h : Fin 2) (y : S1x6x128.Idx) :
    ((slotR p h).emb y 0).val = p.val ∧ ((slotR p h).emb y 1).val = 6 * h.val + (y 1).val ∧ ((slotR p h).emb y 2).val = (y 2).val := by
  have e (a : Fin 3) := ValueKit.rect_emb_unit_val (s := S2x16x128) ![p.val, 6 * h.val, 0] S1x6x128.size (inb_slot p h) y a
  have y0 : (y 0).val < 1 := (y 0).isLt
  refine ⟨(e 0).trans ?_, e 1, (e 2).trans ?_⟩
  · show p.val + (y 0).val = p.val; omega
  · show 0 + (y 2).val = (y 2).val; omega

/-- The final contents at element `y` of half `h` of plane `p`: the row maxima of the device whose the plane is. -/
theorem final_slot (c : Dev nD) (p h : Fin 2) (y : S1x6x128.Idx) :
    final m c ((slotR p h).emb y) = part m (if p.val = 0 then c else peer c) h y := by
  obtain ⟨e0, e1, e2⟩ := slot_emb p h y
  have y0 : (y 0).val < 1 := (y 0).isLt
  have y1 : (y 1).val < 6 := (y 1).isLt
  have hh := h.isLt
  unfold final word
  rw [e0]
  congr 1
  · exact Fin.ext (by show ((slotR p h).emb y 1).val / 6 % 2 = h.val; omega)
  · funext a
    match a with
    | 0 => exact Fin.ext (by show 0 = (y 0).val; omega)
    | 1 => exact Fin.ext (by show ((slotR p h).emb y 1).val % 6 = (y 1).val; omega)
    | 2 => exact Fin.ext (by show ((slotR p h).emb y 2).val = (y 2).val; omega)

/-- Storing half `h` of the own row maxima leaves the own slot at the final contents. -/
theorem stored (c : Dev nD) (h : Fin 2) (f : S2x16x128.Idx → Elt F .f32) :
    ∀ i ∈ grp (gi 0 h), (bM.access (slotR 0 h) : View sig .tc _ _ _).write (Elt F) f (part m c h) Finset.univ i = final m c i := by
  intro i hi
  rw [← slotR_set] at hi
  obtain ⟨y, rfl⟩ := (slotR 0 h).exists_idx_of_mem hi
  refine (View.write_emb_of_mem (v := (bM.access (slotR 0 h) : View sig .tc _ _ _)) (Val := Elt F) f (part m c h) (Finset.mem_univ y)).trans ?_
  exact (final_slot m c 0 h y).symm

/-- A transfer of the pair's half `h` leaves the landing slot at the final contents. -/
theorem landed (c : Dev nD) (h : Fin 2) (f : S2x16x128.Idx → Elt F .f32) :
    ∀ i ∈ grp (gi 1 h), (slotM 1 h).view.write (Elt F) f ((slotM 0 h).view.read (Elt F) (final m (peer c))) Finset.univ i = final m c i := by
  intro i hi
  rw [← slotM_set] at hi
  obtain ⟨x, -, rfl⟩ := Finset.mem_map.mp hi
  refine (View.write_emb_of_mem (v := (slotM 1 h).view) (Val := Elt F) f _ (Finset.mem_univ x)).trans ?_
  let y : S1x6x128.Idx := Shape.reshapeEquiv squeezes_S1x6x128_S6x128.numel_eq x
  show final m (peer c) ((slotR 0 h).emb y) = final m c ((slotR 1 h).emb y)
  rw [final_slot, final_slot]; rfl

/-! ## What the kernel reads back, and its result -/

theorem inb_plane (p : Fin 2) : ∀ a, (![p.val, 0, 0] : Fin 3 → Nat) a + S1x12x128.size a ≤ S2x16x128.size a := by
  revert p; decide
/-- The twelve used rows of plane `p`. -/
abbrev planeR (p : Fin 2) : Rect S2x16x128 := Rect.unit (s := S2x16x128) ![p.val, 0, 0] S1x12x128.size (inb_plane p)

/-- The used rows of plane `p` lie in its two slots. -/
theorem plane_sub (p : Fin 2) : (planeR p).set ⊆ grp (gi p 0) ∪ grp (gi p 1) := by
  intro i hi
  rw [Rect.mem_set_unit] at hi
  rw [Finset.mem_union, mem_grp, mem_grp]
  have hp := p.isLt
  have H0 := hi 0
  have H1 := hi 1
  simp [S1x12x128] at H0 H1
  unfold key gi
  simp only [Fin.val_zero, Fin.val_one]
  omega

/-- The twelve rows of plane `p` of device `c`'s exchange buffer, as read back. -/
def plane (c : Dev nD) (p : Fin 2) : Vec F S1x12x128 .f32 := bM.view.readAt (Elt F) (planeR p).toLoadRect (final m c)

/-- Contents that agree with the final ones on the two slots of a plane read back as them. -/
theorem plane_eq (c : Dev nD) (p : Fin 2) (g : S2x16x128.Idx → Elt F .f32)
    (hg : ∀ h : Fin 2, ∀ i ∈ grp (gi p h), g i = final m c i) :
    bM.view.readAt (Elt F) (planeR p).toLoadRect g = plane m c p :=
  View.readAt_congr (Val := Elt F) (v := bM.view) fun i hi => by
    have hi' : i ∈ (planeR p).set := by
      have e := View.set_slice_whole cc0_scratch0 (planeR p)
      rw [View.set_slice] at e
      rw [← e]; exact hi
    rcases Finset.mem_union.mp (plane_sub p hi') with h | h
    · exact hg 0 i h
    · exact hg 1 i h

/-- Device `c`'s staged result: the elementwise maximum of its own row maxima and its pair's. -/
def outAt (c : Dev nD) : (cc0_stg1_0 : Ref sig .tc).ty.Contents (Elt F) := k0_pay1 (plane m c 0) (plane m c 1)

/-- Element `j` of plane `p` as read back: the word of its row and lane, of the device whose the plane is. -/
theorem plane_apply (c : Dev nD) (p : Fin 2) (j : S1x12x128.Idx) :
    plane m c p j = word m (if p.val = 0 then c else peer c) (j 1).val (j 2) := by
  have e (a : Fin 3) := ValueKit.rect_emb_unit_val (s := S2x16x128) ![p.val, 0, 0] S1x12x128.size (inb_plane p) j a
  have j0 : (j 0).val < 1 := (j 0).isLt
  have e0 : ((planeR p).emb j 0).val = p.val := (e 0).trans (by show p.val + (j 0).val = p.val; omega)
  have e1 : ((planeR p).emb j 1).val = (j 1).val := (e 1).trans (Nat.zero_add _)
  have e2 : (planeR p).emb j 2 = j 2 := Fin.ext ((e 2).trans (Nat.zero_add _))
  show final m c ((planeR p).emb j) = _
  unfold final
  rw [e0, e1, e2]

end Cert.KernelIdeal.Pair

end
-- ==== Proof.Ideal.Talk.lean ====
/-
  The exchange: what every semaphore cell is paid, what each device owes and may wait for, and the kernel's body run
  against it.

  Every cell is paid once. A device's barrier cell is paid one unit by its pair, with the pair's two landing slots and the
  fact that the cells of the pair's landing slots have been set up. The cell of a slot is paid by a transfer: a slot of
  plane 0 by the device's own transfer out of it, a slot of plane 1 by the pair's transfer into it, in either case with
  the slot at its final contents.
-/
module

public import proofs.«01_k».proof.Proof.Ideal.Slots
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal.Pair

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Cells and slots -/

/-- The semaphore of half `h` of plane `p`. -/
abbrev slotS (p h : Fin 2) : DmaSem sig := match p with | 0 => sndS h | 1 => rcvS h
abbrev barCell (c : Dev nD) : GSem nD τ sig := ((c : Thread nD τ), .reg barS)
abbrev slotCell (c : Dev nD) (p h : Fin 2) : GSem nD τ sig := ((c : Thread nD τ), .dma (slotS p h))

/-- The plane and the half a transfer semaphore is for. -/
def semP (i : DmaSem sig) : Fin 2 := ⟨i.val / 2 % 2 + 1 - 2 * (i.val / 2 % 2), by have := Nat.mod_lt (i.val / 2) (y := 2) (by decide); omega⟩
def semH (i : DmaSem sig) : Fin 2 := ⟨i.val % 2, Nat.mod_lt _ (by decide)⟩
theorem semP_slot (p h : Fin 2) : semP (slotS p h) = p := by revert p h; decide
theorem semH_slot (p h : Fin 2) : semH (slotS p h) = h := by revert p h; decide
theorem slot_ne_bar (p h : Fin 2) : (SemLoc.dma (slotS p h) : SemLoc sig) ≠ .reg barS := fun h => by cases h

/-- Half `h` of plane `p` of device `c`'s exchange buffer, at contents `f`. -/
def slotAt (c : Dev nD) (p h : Fin 2) (f : S2x16x128.Idx → Elt F .f32) : sProp 𝕄 :=
  bM.view.loc (c : Thread nD τ) ↦[grp (gi p h)]{fullShare} f
/-- The same at the final contents. -/
def slotPts (c : Dev nD) (p h : Fin 2) : sProp 𝕄 := slotAt c p h (final m c)
instance slotAt_storable (c : Dev nD) (p h : Fin 2) (f) : BI.Storable (upEmb : UEmb _ 𝕄) (slotAt (F := F) c p h f) := by
  unfold slotAt; infer_instance
instance slotPts_storable (c : Dev nD) (p h : Fin 2) : BI.Storable (upEmb : UEmb _ 𝕄) (slotPts m c p h) := by
  unfold slotPts; infer_instance

/-- One conjunct per row group. -/
theorem grp_sep (Φ : Fin 6 → sProp 𝕄) :
    bigSep Finset.univ Φ = iprop(Φ (gi 0 0) ∗ Φ (gi 0 1) ∗ Φ (gi 1 0) ∗ Φ (gi 1 1) ∗ Φ 2 ∗ Φ 5) :=
  bigSep_univ_eq_bigSepL [gi 0 0, gi 0 1, gi 1 0, gi 1 1, 2, 5] (by decide) (by decide) Φ

/-- The two unused row groups. -/
def spare (c : Dev nD) (f : S2x16x128.Idx → Elt F .f32) : sProp 𝕄 :=
  iprop((bM.view.loc (c : Thread nD τ) ↦[grp 2]{fullShare} f) ∗ (bM.view.loc (c : Thread nD τ) ↦[grp 5]{fullShare} f))

/-- No slot is an unused row group. -/
theorem gi_used : ∀ p h : Fin 2, ¬ (gi p h = 2 ∨ gi p h = 5) := by decide

/-- The exchange buffer is its four slots and the unused rows. -/
theorem scr_split (c : Dev nD) (f : S2x16x128.Idx → Elt F .f32) :
    (bM.view.loc (c : Thread nD τ) ↦{fullShare} f : sProp 𝕄)
      = iprop(slotAt c 0 0 f ∗ slotAt c 0 1 f ∗ slotAt c 1 0 f ∗ slotAt c 1 1 f ∗ spare c f) := by
  have e := pointsTo_biUnion (ℓ := bM.view.loc (c : Thread nD τ)) (q := fullShare) (f := f) (Ix := Unit) (Name := ℕ) (U := UU) (Lvl := ℕ) Finset.univ grp grp_disjoint
  rw [grp_sep, grp_univ] at e
  exact e

/-- The four slots at the final contents and the unused rows make the exchange buffer whole again, at contents that are the
    final ones on every slot. -/
theorem scr_join (c : Dev nD) (f : S2x16x128.Idx → Elt F .f32) :
    iprop(slotPts m c 0 0 ∗ slotPts m c 0 1 ∗ slotPts m c 1 0 ∗ slotPts m c 1 1 ∗ spare c f)
      ⊢ (iprop(∃ g : S2x16x128.Idx → Elt F .f32, ⌜∀ p h : Fin 2, ∀ i ∈ grp (gi p h), g i = final m c i⌝
          ∗ bM.view.loc (c : Thread nD τ) ↦{fullShare} g) : sProp 𝕄) := by
  have e := pointsTo_biUnion_join (ℓ := bM.view.loc (c : Thread nD τ)) (q := fullShare) (Ix := Unit) (Name := ℕ) (U := UU) (Lvl := ℕ) Finset.univ grp
    (fun t : Fin 6 => if t = 2 ∨ t = 5 then f else final m c) f grp_disjoint
  rw [grp_sep, grp_univ] at e
  have e' : (iprop(∃ g : S2x16x128.Idx → Elt F .f32, ⌜∀ t ∈ (Finset.univ : Finset (Fin 6)), ∀ i ∈ grp t, g i = (if t = 2 ∨ t = 5 then f else final m c) i⌝
        ∗ bM.view.loc (c : Thread nD τ) ↦{fullShare} g) : sProp 𝕄)
      ⊢ iprop(∃ g : S2x16x128.Idx → Elt F .f32, ⌜∀ p h : Fin 2, ∀ i ∈ grp (gi p h), g i = final m c i⌝ ∗ bM.view.loc (c : Thread nD τ) ↦{fullShare} g) := by
    iintro ⟨%g, %hg, H⟩
    iexists g
    isplitr
    · ipureintro
      intro p h i hi
      rw [hg (gi p h) (Finset.mem_univ _) i hi, if_neg (gi_used p h)]
    iexact H
  exact BI.Entails.trans (show _ ⊢ _ from e) e'

/-! ## The schedule -/

/-- Paid to device `c`'s barrier cell by its pair, for half `h`: the pair's landing slot, whose cell is set up. -/
def barHalf (c : Dev nD) (h : Fin 2) : sProp 𝕄 :=
  iprop((∃ f, slotAt (F := F) (peer c) 1 h f) ∗ reached ER (slotCell (peer c) 1 h) 0)
def barPay (c : Dev nD) : sProp 𝕄 := iprop(barHalf (F := F) c 0 ∗ barHalf c 1)

/-- The semaphores of the exchange. -/
abbrev IsTalk (sm : SemLoc sig) : Prop := sm = .reg barS ∨ ∃ p h : Fin 2, sm = .dma (slotS p h)

def talkRd : Rounds.Schedule (GSem nD τ sig) Unit 𝕄 where
  duties g r := if r = 0 ∧ g.1.2 = .tc ∧ IsTalk g.2 then {()} else ∅
  unitless _ := False
  amount g _ _ := match g.2 with | .reg _ => 1 | .dma _ => N
  payload g _ _ := match g.2 with | .reg _ => barPay g.1.1 | .dma i => slotPts m g.1.1 (semP i) (semH i)
  amount_pos g _ _ _ := by
    rcases g with ⟨t, s | s⟩
    · exact Nat.one_pos
    · exact N_pos

instance talkRd_payload_storable (g : GSem nD τ sig) (r : ℕ) (d : Unit) :
    BI.Storable (upEmb : UEmb _ 𝕄) ((talkRd (F := F) m).payload g r d) := by
  rcases g with ⟨t, s | s⟩
  · show BI.Storable upEmb (barPay t.1); unfold barPay barHalf; infer_instance
  · show BI.Storable upEmb (slotPts m t.1 (semP s) (semH s)); infer_instance

section Sched

variable (c : Dev nD) (p h : Fin 2)

theorem duties_bar : (talkRd m).duties (barCell c) 0 = {()} := by dsimp only [talkRd]; exact if_pos ⟨rfl, rfl, .inl rfl⟩
theorem duties_slot : (talkRd m).duties (slotCell c p h) 0 = {()} := by
  dsimp only [talkRd]; exact if_pos ⟨rfl, rfl, .inr ⟨p, h, rfl⟩⟩
theorem duties_later (g : GSem nD τ sig) : ∀ r, 1 ≤ r → (talkRd m).duties g r = ∅ :=
  fun r hr => by dsimp only [talkRd]; exact if_neg (fun h => by omega)
theorem amount_bar (u : Unit) : (talkRd m).amount (barCell c) 0 u = 1 := rfl
theorem amount_slot (u : Unit) : (talkRd m).amount (slotCell c p h) 0 u = N := rfl
theorem expect_bar : (talkRd m).expect (barCell c) 0 = 1 := by
  unfold Schedule.expect Schedule.amountOf; rw [duties_bar, Finset.sum_singleton, amount_bar]
theorem expect_slot : (talkRd m).expect (slotCell c p h) 0 = N := by
  unfold Schedule.expect Schedule.amountOf; rw [duties_slot, Finset.sum_singleton, amount_slot]
theorem payload_bar (u : Unit) : (talkRd m).payload (barCell c) 0 u = barPay c := rfl
theorem payload_slot (u : Unit) : (talkRd m).payload (slotCell c p h) 0 u = slotPts m c p h := by
  show slotPts m c (semP (slotS p h)) (semH (slotS p h)) = _
  rw [semP_slot, semH_slot]
theorem rest_bar : bigSep ((talkRd m).duties (barCell c) 0 \ ∅) (fun u => (talkRd m).payload (barCell c) 0 u) = barPay c := by
  rw [Finset.sdiff_empty, duties_bar, bigSep_singleton, payload_bar]
theorem rest_slot : bigSep ((talkRd m).duties (slotCell c p h) 0 \ ∅) (fun u => (talkRd m).payload (slotCell c p h) 0 u) = slotPts m c p h := by
  rw [Finset.sdiff_empty, duties_slot, bigSep_singleton, payload_slot]

end Sched

/-! ## What each device owes at launch, and the levels of the cells -/

/-- What device `c` still owes once it has signalled its pair's barrier: the credits of its two transfers. -/
def O₁ (c : Dev nD) : CellTallies nD τ sig Unit := tallyAt (slotCell (peer c) 1 1) () N + tallyAt (slotCell (peer c) 1 0) () N
/-- What it owes at launch. -/
def O₀ (c : Dev nD) : CellTallies nD τ sig Unit := O₁ c + tallyAt (barCell (peer c)) () 1

def L (g : GSem nD τ sig) : Finset Unit := if g.1.2 = .tc then {()} else ∅
/-- Barrier cells at 1, the cells of landing slots at 2, the rest at 0. -/
def lv (g : GSem nD τ sig) (_ : Unit) : ℕ := if g.2 = .reg barS then 1 else if ∃ h : Fin 2, g.2 = .dma (slotS 1 h) then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) : () ∈ L ((c : Thread nD τ), sm) := by rw [L_tc]; exact Finset.mem_singleton_self _
theorem lv_bar (c : Dev nD) : lv (barCell c) () = 1 := if_pos rfl
theorem lv_land (c : Dev nD) (h : Fin 2) : lv (slotCell c 1 h) () = 2 := by
  unfold lv; rw [if_neg (slot_ne_bar 1 h), if_pos ⟨h, rfl⟩]

theorem tallyAt_pos {g g' : GSem nD τ sig} {n : ℕ} {u : Unit} (h : 0 < tallyAt g () n g' u) : g' = g := by
  rw [tallyAt_apply] at h
  by_contra hne
  rw [if_neg (fun e => hne e.1)] at h
  exact absurd h (Nat.lt_irrefl 0)
theorem O₁_pos {c : Dev nD} {g : GSem nD τ sig} {u : Unit} (h : 0 < O₁ c g u) : ∃ k : Fin 2, g = slotCell (peer c) 1 k := by
  unfold O₁ at h
  rw [Pi.add_apply, Finsupp.add_apply] at h
  rcases Nat.add_pos_iff_pos_or_pos.mp h with h | h
  · exact ⟨1, tallyAt_pos h⟩
  · exact ⟨0, tallyAt_pos h⟩
theorem O₀_pos {c : Dev nD} {g : GSem nD τ sig} {u : Unit} (h : 0 < O₀ c g u) : (∃ k : Fin 2, g = slotCell (peer c) 1 k) ∨ g = barCell (peer c) := by
  unfold O₀ at h
  rw [Pi.add_apply, Finsupp.add_apply] at h
  rcases Nat.add_pos_iff_pos_or_pos.mp h with h | h
  · exact .inl (O₁_pos h)
  · exact .inr (tallyAt_pos h)

/-- A device may wait at its barrier while it owes its two transfers. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp]; exact mem_L_tc _ _)
    (fun g u hg => by obtain ⟨k, rfl⟩ := O₁_pos hg; exact mem_L_tc _ _)
    (fun p hp => by rw [Finset.mem_singleton.mp hp]; exact (lv_bar c).le)
    (fun g u hg => by obtain ⟨k, rfl⟩ := O₁_pos hg; cases u; rw [lv_land]; decide)

/-! ## The ghost state -/

section Ghost

variable (K : GSem nD τ sig → ℕ) (c : Dev nD) (h : Fin 2)

/-- The invariant of cell `g`, at the name the launch gave it. -/
abbrev inv (g : GSem nD τ sig) : sProp 𝕄 := cellInv ER (talkRd m) (K g) g
/-- Half `h`: the invariants of the own two cells and of the pair's landing cell. -/
def laneInv : sProp 𝕄 := iprop(inv m K (slotCell c 0 h) ∗ inv m K (slotCell c 1 h) ∗ inv m K (slotCell (peer c) 1 h))
instance laneInv_persistent : BI.Persistent (laneInv m K c h) := by unfold laneInv; infer_instance
/-- Half `h`: the right to set up the own two cells. -/
def laneRight : sProp 𝕄 := iprop(openTok ER (slotCell c 0 h) ∗ openTok ER (slotCell c 1 h))
/-- Half `h`: the tokens of the two duties the own transfer pays. -/
def laneTok : sProp 𝕄 := iprop(dutyTok ER (slotCell c 0 h) 0 () ∗ dutyTok ER (slotCell (peer c) 1 h) 0 ())
/-- Half `h`: the own two cells set up. -/
def laneOpen : sProp 𝕄 := iprop((atPos ER (slotCell c 0 h) 0 ∅ 0 ∗ reached ER (slotCell c 0 h) 0)
  ∗ (atPos ER (slotCell c 1 h) 0 ∅ 0 ∗ reached ER (slotCell c 1 h) 0))
/-- Every invariant device `c` opens. -/
def invs : sProp 𝕄 := iprop(inv m K (barCell c) ∗ inv m K (barCell (peer c)) ∗ laneInv m K c 0 ∗ laneInv m K c 1)
instance invs_persistent : BI.Persistent (invs m K c) := by unfold invs; infer_instance
/-- What is not per half: the position on the own barrier cell, and the duty at the pair's. -/
def barGhost : sProp 𝕄 := iprop(atPos ER (barCell c) 0 ∅ 0 ∗ reached ER (barCell (peer c)) 0 ∗ dutyTok ER (barCell (peer c)) 0 ())

/-- What device `c` carries from launch to the kernel. -/
def ghost : sProp 𝕄 :=
  iprop(invs m K c ∗ barGhost c ∗ (laneRight c 0 ∗ laneTok c 0) ∗ (laneRight c 1 ∗ laneTok c 1))
/-- The same once the four cells of the slots are set up. -/
def opened : sProp 𝕄 :=
  iprop(invs m K c ∗ barGhost c ∗ (laneOpen c 0 ∗ laneTok c 0) ∗ (laneOpen c 1 ∗ laneTok c 1))
/-- The credits device `c` waits with: its barrier's unit and its two landing slots'. -/
def creds : sProp 𝕄 :=
  iprop(cred (Val := Elt F) (Name := ℕ) (U := UU) (Lvl := ℕ) (tallyAt (barCell c) () 1) ∗ cred (tallyAt (slotCell c 1 0) () N) ∗ cred (tallyAt (slotCell c 1 1) () N))

/-- The counters of half `h`, at zero. -/
def laneZero : sProp 𝕄 := iprop(semVal (Ix := Unit) (Val := Elt F) (Name := ℕ) (U := UU) (Lvl := ℕ) (slotCell c 0 h) 0 ∗ semVal (slotCell c 1 h) 0)

/-- Setting up the own two cells of half `h` from their counters at zero. -/
theorem open_lane : iprop(laneInv m K c h ∗ laneRight c h ∗ laneZero c h) ⊢ (|={Set.univ}=> laneOpen c h : sProp 𝕄) := by
  unfold laneInv laneRight laneZero laneOpen
  iintro ⟨⟨#HI0, #HI1, -⟩, ⟨Ho0, Ho1⟩, ⟨Hz0, Hz1⟩⟩
  imod (Rounds.cell_open ER (talkRd m) (g := slotCell c 0 h) (Set.mem_univ (K (slotCell c 0 h)))) $$ [Ho0 Hz0] with ⟨Ha0, #Hr0⟩
  · isplitr; · iexact HI0
    isplitl [Ho0] <;> iassumption
  imod (Rounds.cell_open ER (talkRd m) (g := slotCell c 1 h) (Set.mem_univ (K (slotCell c 1 h)))) $$ [Ho1 Hz1] with ⟨Ha1, #Hr1⟩
  · isplitr; · iexact HI1
    isplitl [Ho1] <;> iassumption
  imodintro
  isplitl [Ha0]
  · isplitl [Ha0]; · iexact Ha0
    iexact Hr0
  · isplitl [Ha1]; · iexact Ha1
    iexact Hr1

/-- A cell whose one round is over gives its counter back at zero. -/
theorem close (g : GSem nD τ sig) : iprop(inv m K g ∗ atPos ER g (0 + 1) ∅ 0) ⊢ (|={Set.univ}=> semVal g 0 : sProp 𝕄) :=
  Rounds.cell_close ER (talkRd m) (Set.mem_univ (K g)) id (duties_later m g)

end Ghost

/-- Device `c` owes `O`, whatever it has waited for. -/
def owesSome (c : Dev nD) (O : CellTallies nD τ sig Unit) : sProp 𝕄 :=
  iprop(∃ W, owes (Val := Elt F) (Name := ℕ) (U := UU) (Lvl := ℕ) (c : Thread nD τ) O W)

abbrev 𝒱₀ : Variants := Variants.none

/-! ## The transfers and the waits -/

section Steps

variable (K : GSem nD τ sig → ℕ) (c : Dev nD) (h : Fin 2)

/-- The transfer of half `h` to the pair: takes the own slot at its final contents and the pair's landing slot, and pays both
    cells; the credit to wait for the own one is left. -/
theorem wp_send_half (n : Dev nD) (hn : n = peer c) (O : CellTallies nD τ sig Unit)
    {hsc : (slotM 1 h : Memref sig (Dev.tc n : Thread nD τ).2.kind .vmem S6x128 .f32).view.ref.isScScratch = false}
    {hsrc : (slotM 0 h).view.WordExact} {hdst : (slotM 1 h : Memref sig (Dev.tc n : Thread nD τ).2.kind .vmem S6x128 .f32).view.WordExact}
    {hsem : DmaTarget.Typed .vmem (.dma (rcvS h)) (.remote (Dev.tc n : Thread nD τ) (slotM 1 h) (.dma (sndS h)) hsc)}
    {α : Type} {Q : α → sProp 𝕄} {k : PUnit → Prog (TpuEff nD τ sig (Elt F) Λ₀ .tc) α} :
    iprop(laneInv m K c h ∗ slotPts m c 0 h ∗ (∃ f, slotAt (peer c) 1 h f) ∗ owesSome c (O + tallyAt (slotCell (peer c) 1 h) () N)
        ∗ laneTok c h ∗ reached ER (slotCell c 0 h) 0 ∗ reached ER (slotCell (peer c) 1 h) 0)
      ⊢ iprop(((cred (tallyAt (slotCell c 0 h) () N) ∗ owesSome c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 h) (.remote (Dev.tc n : Thread nD τ) (slotM 1 h) (.dma (sndS h)) hsc) (.dma (rcvS h)) hsrc hdst hsem) k) Q) := by
  subst hn
  unfold laneInv laneTok owesSome
  iintro ⟨⟨#HIs, -, #HIr⟩, Hs, ⟨%f, Hd⟩, ⟨%W, HO⟩, ⟨HtS, HtR⟩, #HrS, #HrR⟩ Hk
  iapply (Rounds.wp_send_pointsTo 𝒱₀ ER (talkRd m) (c : Thread nD τ) none (c' := (peer c : Thread nD τ)) (src := slotM 0 h) (dst := slotM 1 h)
      (sS := .dma (sndS h)) (sem := .dma (rcvS h)) (q := fullShare) (fs := final m c)
      (κ₁ := K (slotCell c 0 h)) (κ₂ := K (slotCell (peer c) 1 h))
      (r₁ := 0) (r₂ := 0) (d₁ := ()) (d₂ := ()) (fd := f)
      (by show () ∈ (talkRd m).duties (slotCell c 0 h) 0; rw [duties_slot]; exact Finset.mem_singleton_self _)
      (by show () ∈ (talkRd m).duties (slotCell (peer c) 1 h) 0; rw [duties_slot]; exact Finset.mem_singleton_self _)
      () () N rfl rfl rfl O rfl (W := W)
      (by
        show _ ⊢ (talkRd m).payload (slotCell c 0 h) 0 ()
        rw [payload_slot, slotM_set]; exact BI.Entails.refl _)
      (by
        show _ ⊢ (talkRd m).payload (slotCell (peer c) 1 h) 0 ()
        rw [payload_slot, slotM_set]
        refine Entails.of_eq (pointsTo_congr fun i hi => ?_)
        have e := landed m (peer c) h f i hi
        rw [peer_peer] at e; exact e)) $$ [Hs Hd HO HtS HtR]
  · isplitr; · iexact HIs
    isplitr; · iexact HIr
    isplitl [Hs]; · rw [slotM_set]; unfold slotPts slotAt; iexact Hs
    isplitl [Hd]; · rw [slotM_set]; unfold slotAt; iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- The wait on the cell of half `h` of plane `p`, owing nothing: the slot comes back at its final contents. -/
theorem wp_wait_half (p : Fin 2) {src dst : Memref sig .tc .vmem S6x128 .f32} (hs : src.view.WordExact) (hd : dst.view.WordExact) (hN : dst.view.dmaCredit = N)
    {α : Type} {Q : α → sProp 𝕄} {k : PUnit → Prog (TpuEff nD τ sig (Elt F) Λ₀ .tc) α} :
    iprop(inv m K (slotCell c p h) ∗ cred (tallyAt (slotCell c p h) () N) ∗ owesSome c 0 ∗ atPos ER (slotCell c p h) 0 ∅ 0)
      ⊢ iprop(((owesSome c 0 ∗ atPos ER (slotCell c p h) (0 + 1) ∅ 0 ∗ slotPts m c p h) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (slotS p h) src dst hs hd) k) Q) := by
  unfold owesSome
  iintro ⟨#HI, Hc, ⟨%W, HO⟩, Ha⟩ Hk
  iapply (Rounds.wp_wait_rest_token 𝒱₀ ER (talkRd m) (c : Thread nD τ) none (κ := K (slotCell c p h))
      (wpE_waitDma2_eq (src := src) (dst := dst) 𝒱₀ (c : Thread nD τ) none Set.univ) (Set.mem_univ _) () (O := 0) (W := W) (R := 0) (m := 0) (T := ∅)
      (by rw [Nat.zero_add, hN]; exact (expect_slot m c p h).symm)) $$ [Hc HO Ha]
  · isplitr; · iexact HI
    isplitl [Hc]; · rw [hN]; iexact Hc
    isplitl [HO]; · iexact HO
    isplitr; · rw [MayWait_zero]; iempintro
    iexact Ha
  iintro ⟨HO, Ha, -, Hp⟩
  iapply Hk
  isplitl [HO]; · iexists _; iexact HO
  isplitl [Ha]; · iexact Ha
  iapply (Entails.of_eq (rest_slot m c p h)) $$ Hp

/-- The stored half of the row maxima is the own slot at its final contents. -/
theorem own_stored (f : S2x16x128.Idx → Elt F .f32) :
    slotAt c 0 h ((bM.access (slotR 0 h) : View sig .tc _ _ _).write (Elt F) f (part m c h) Finset.univ) = slotPts m c 0 h :=
  pointsTo_congr (stored m c h f)

end Steps

/-! ## The body -/

/-- The kernel's invariant before its one point: everything set up, the exchange buffer at some contents. -/
def Φ₀ (c : Dev nD) : sProp 𝕄 :=
  iprop(((∃ K, opened m K c) ∗ creds c ∗ levAts L lv) ∗ (∃ f : S2x16x128.Idx → Elt F .f32, bM.view.loc (c : Thread nD τ) ↦{fullShare} f) ∗ ∃ r, prngReg c r)
/-- After it: every counter at zero, the exchange buffer at some contents. -/
def Φ₁ (c : Dev nD) : sProp 𝕄 :=
  iprop((semVal (barCell c) 0 ∗ laneZero (F := F) c 0 ∗ laneZero c 1) ∗ (∃ f : S2x16x128.Idx → Elt F .f32, bM.view.loc (c : Thread nD τ) ↦{fullShare} f) ∗ ∃ r, prngReg c r)

/-- The launch's proof data: the arrays as they are at entry, the staged result after the body. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz : (![0, 0] : Fin 2 → Nat) = fun _ => 0 := funext fun a => by fin_cases a <;> rfl
/-- A store of the whole result leaves what is stored. -/
theorem write_out (f w : (cc0_stg1_0 : Ref sig .tc).ty.Contents (Elt F)) :
    (oM.access (Rect.unit (s := S12x128) ![0, 0] S12x128.size inb_S12x128_S12x128_0_0) : View sig .tc _ _ _).write (Elt F) f w Finset.univ = w :=
  Memref.write_access_unit_zero_univ (Elt F) cc0_stg1_0 hz _ f w

theorem own_load_sub (h : Fin 2) : (bM.access (slotR 0 h) : View sig .tc _ _ _).set ⊆ grp (gi 0 h) := (access_set 0 h).subset
theorem own_store_sub (h : Fin 2) : (bM.access (slotR 0 h) : View sig .tc _ _ _).setOn Finset.univ ⊆ grp (gi 0 h) :=
  (View.setOn_subset_set _ _).trans (access_set 0 h).subset

def bodyPre (K : GSem nD τ sig → ℕ) (c : Dev nD) : sProp 𝕄 :=
  iprop((opened m K c ∗ creds c ∗ levAts L lv) ∗ (∃ f : S2x16x128.Idx → Elt F .f32, bM.view.loc (c : Thread nD τ) ↦{fullShare} f)
    ∗ owesSome c (O₀ c) ∗ ((c : Thread nD τ).loc cc0_stg0_0 ↦{fullShare} xstg m c)
    ∗ (∃ g : (cc0_stg1_0 : Ref sig .tc).ty.Contents (Elt F), (c : Thread nD τ).loc cc0_stg1_0 ↦{fullShare} g))
def bodyPost (c : Dev nD) : sProp 𝕄 :=
  iprop((semVal (barCell c) 0 ∗ laneZero (F := F) c 0 ∗ laneZero c 1) ∗ (∃ f : S2x16x128.Idx → Elt F .f32, bM.view.loc (c : Thread nD τ) ↦{fullShare} f)
    ∗ owesSome c 0 ∗ ((c : Thread nD τ).loc cc0_stg0_0 ↦{fullShare} xstg m c)
    ∗ ((c : Thread nD τ).loc cc0_stg1_0 ↦{fullShare} outAt m c))

set_option maxHeartbeats 4000000 in
/-- The kernel's body on device `c`. -/
theorem sound_body (K : GSem nD τ sig → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre opened invs barGhost creds
  iintro ⟨⟨⟨⟨⟨#HIb, #HIbP, #HL0, #HL1⟩, ⟨HaB, #HrBP, HtBP⟩, ⟨Hop0, Htk0⟩, ⟨Hop1, Htk1⟩⟩, ⟨HcB, HcV0, HcV1⟩, #Hlev⟩, ⟨%f0, Hscr⟩, HO, Hx, ⟨%g1, Hout⟩⟩, Hk⟩
  unfold laneOpen
  icases Hop0 with ⟨⟨HaS0, #HrS0⟩, ⟨HaV0, #HrV0⟩⟩
  icases Hop1 with ⟨⟨HaS1, #HrS1⟩, ⟨HaV1, #HrV1⟩⟩
  ihave Hsp := (Entails.of_eq (scr_split (F := F) c f0)) $$ Hscr
  icases Hsp with ⟨Ho0, Ho1, Hl0, Hl1, Hspare⟩
  unfold owesSome
  icases HO with ⟨%W, HO⟩
  simp only [dev1_eq c]
  -- signal the pair's barrier: the own landing slots go with the unit
  iapply (Rounds.wp_signal 𝒱₀ ER (talkRd m) (c : Thread nD τ) none (dst := (peer c : Thread nD τ)) (κ := K (barCell (peer c)))
      (by rw [duties_bar]; exact Finset.mem_singleton_self _) ((amount_bar m (peer c) ()).trans (by decide)) () (O₁ c) rfl)
    $$ [HO HtBP Hl0 Hl1]
  · isplitr; · iexact HIbP
    isplitl [HO]; · iexact HO
    isplitl [HtBP]; · iexact HtBP
    isplitl [Hl0 Hl1]
    · rw [payload_bar]; unfold barPay barHalf; rw [peer_peer]
      isplitl [Hl0]
      · isplitl [Hl0]; · iexists f0; iexact Hl0
        iexact HrV0
      · isplitl [Hl1]; · iexists f0; iexact Hl1
        iexact HrV1
    · iexact HrBP
  iintro HO
  -- the first half of the row maxima, into the own slot
  iapply (wp_load 𝒱₀ (c : Thread nD τ) none Set.univ (m := xM) (Finset.subset_univ _)) $$ Hx; iintro Hx
  unfold slotAt
  iapply (wp_load_rect 𝒱₀ (c : Thread nD τ) none Set.univ (m := bM) (r := slotR 0 0) (own_load_sub 0)) $$ Ho0; iintro Ho0
  iapply (wp_store 𝒱₀ (c : Thread nD τ) none Set.univ (m := bM) (r := slotR 0 0) (Mk := Finset.univ) (own_store_sub 0)) $$ Ho0; iintro Ho0
  have p0 : k0_pay2 (xM.view.readAt (Elt F) (Rect.unit (s := S1536x768) ![0, 0] S768x768.size inb_S1536x768_S768x768_0_0).toLoadRect (xstg m c)) = part m c 0 := rfl
  rw [p0]
  ihave Ho0 : slotPts m c 0 0 $$ [Ho0]
  · rw [← own_stored m c 0 f0]
    unfold slotAt
    iexact Ho0
  -- wait for the pair's barrier unit: the pair's landing slots come with it
  iapply (Rounds.wp_wait_rest_token 𝒱₀ ER (talkRd m) (c : Thread nD τ) none (κ := K (barCell c))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay barHalf
  icases Hp with ⟨⟨Hd0, #HrD0⟩, ⟨Hd1, #HrD1⟩⟩
  -- the first transfer
  iapply (wp_send_half m K c 0 _ (dev2_eq c) (tallyAt (slotCell (peer c) 1 1) () N)) $$ [Ho0 Hd0 HO Htk0]
  · isplitr; · iexact HL0
    isplitl [Ho0]; · iexact Ho0
    isplitl [Hd0]; · iexact Hd0
    isplitl [HO]; · unfold owesSome; iexists _; iexact HO
    isplitl [Htk0]; · iexact Htk0
    isplitr; · iexact HrS0
    iexact HrD0
  iintro ⟨HcS0, HO⟩
  -- the second half, and the second transfer
  iapply (wp_load 𝒱₀ (c : Thread nD τ) none Set.univ (m := xM) (Finset.subset_univ _)) $$ Hx; iintro Hx
  iapply (wp_load_rect 𝒱₀ (c : Thread nD τ) none Set.univ (m := bM) (r := slotR 0 1) (own_load_sub 1)) $$ Ho1; iintro Ho1
  iapply (wp_store 𝒱₀ (c : Thread nD τ) none Set.univ (m := bM) (r := slotR 0 1) (Mk := Finset.univ) (own_store_sub 1)) $$ Ho1; iintro Ho1
  have p1 : k0_pay3 (xM.view.readAt (Elt F) (Rect.unit (s := S1536x768) ![768, 0] S768x768.size inb_S1536x768_S768x768_768_0).toLoadRect (xstg m c)) = part m c 1 := rfl
  rw [p1]
  ihave Ho1 : slotPts m c 0 1 $$ [Ho1]
  · rw [← own_stored m c 1 f0]
    unfold slotAt
    iexact Ho1
  iapply (wp_send_half m K c 1 _ (dev3_eq c) 0) $$ [Ho1 Hd1 HO Htk1]
  · isplitr; · iexact HL1
    isplitl [Ho1]; · iexact Ho1
    isplitl [Hd1]; · iexact Hd1
    isplitl [HO]; · rw [zero_add]; iexact HO
    isplitl [Htk1]; · iexact Htk1
    isplitr; · iexact HrS1
    iexact HrD1
  iintro ⟨HcS1, HO⟩
  -- the four waits
  unfold laneInv
  icases HL0 with ⟨#HIs0, #HIv0, -⟩
  icases HL1 with ⟨#HIs1, #HIv1, -⟩
  iapply (wp_wait_half m K c 0 0 (src := slotM 1 0) (dst := slotM 0 0) ((View.wordExact_bits rfl).reshape _ _) ((View.wordExact_bits rfl).reshape _ _) rfl) $$ [HcS0 HO HaS0]
  · isplitr; · iexact HIs0
    isplitl [HcS0]; · iexact HcS0
    isplitl [HO] <;> iassumption
  iintro ⟨HO, HaS0, Ho0⟩
  iapply (wp_wait_half m K c 0 1 (src := slotM 0 0) (dst := slotM 1 0) ((View.wordExact_bits rfl).reshape _ _) ((View.wordExact_bits rfl).reshape _ _) rfl) $$ [HcV0 HO HaV0]
  · isplitr; · iexact HIv0
    isplitl [HcV0]; · iexact HcV0
    isplitl [HO] <;> iassumption
  iintro ⟨HO, HaV0, Hl0⟩
  iapply (wp_wait_half m K c 1 0 (src := slotM 1 1) (dst := slotM 0 1) ((View.wordExact_bits rfl).reshape _ _) ((View.wordExact_bits rfl).reshape _ _) rfl) $$ [HcS1 HO HaS1]
  · isplitr; · iexact HIs1
    isplitl [HcS1]; · iexact HcS1
    isplitl [HO] <;> iassumption
  iintro ⟨HO, HaS1, Ho1⟩
  iapply (wp_wait_half m K c 1 1 (src := slotM 0 1) (dst := slotM 1 1) ((View.wordExact_bits rfl).reshape _ _) ((View.wordExact_bits rfl).reshape _ _) rfl) $$ [HcV1 HO HaV1]
  · isplitr; · iexact HIv1
    isplitl [HcV1]; · iexact HcV1
    isplitl [HO] <;> iassumption
  iintro ⟨HO, HaV1, Hl1⟩
  -- the five cells give their counters back
  imod (close m K (barCell c)) $$ [HaB] with HzB
  · isplitr; · iexact HIb
    iexact HaB
  imod (close m K (slotCell c 0 0)) $$ [HaS0] with HzS0
  · isplitr; · iexact HIs0
    iexact HaS0
  imod (close m K (slotCell c 1 0)) $$ [HaV0] with HzV0
  · isplitr; · iexact HIv0
    iexact HaV0
  imod (close m K (slotCell c 0 1)) $$ [HaS1] with HzS1
  · isplitr; · iexact HIs1
    iexact HaS1
  imod (close m K (slotCell c 1 1)) $$ [HaV1] with HzV1
  · isplitr; · iexact HIv1
    iexact HaV1
  -- the exchange buffer whole again, its two planes read, and the result stored
  ihave Hscr := (scr_join m c f0) $$ [Ho0 Ho1 Hl0 Hl1 Hspare]
  · isplitl [Ho0]; · iexact Ho0
    isplitl [Ho1]; · iexact Ho1
    isplitl [Hl0]; · iexact Hl0
    isplitl [Hl1] <;> iassumption
  icases Hscr with ⟨%g, %hg, Hscr⟩
  have e0 : bM.view.readAt (Elt F) (Rect.unit (s := S2x16x128) ![0, 0, 0] S1x12x128.size inb_S2x16x128_S1x12x128_0_0_0).toLoadRect g = plane m c 0 :=
    plane_eq m c 0 g fun h => hg 0 h
  have e1 : bM.view.readAt (Elt F) (Rect.unit (s := S2x16x128) ![1, 0, 0] S1x12x128.size inb_S2x16x128_S1x12x128_1_0_0).toLoadRect g = plane m c 1 :=
    plane_eq m c 1 g fun h => hg 1 h
  iapply (wp_load 𝒱₀ (c : Thread nD τ) none Set.univ (m := bM) (Finset.subset_univ _)) $$ Hscr; iintro Hscr
  iapply (wp_load 𝒱₀ (c : Thread nD τ) none Set.univ (m := bM) (Finset.subset_univ _)) $$ Hscr; iintro Hscr
  rw [e0, e1]
  iapply (wp_load 𝒱₀ (c : Thread nD τ) none Set.univ (m := oM) (Finset.subset_univ _)) $$ Hout; iintro Hout
  iapply (wp_store 𝒱₀ (c : Thread nD τ) none Set.univ (m := oM) (r := Rect.unit (s := S12x128) ![0, 0] S12x128.size inb_S12x128_S12x128_0_0) (Mk := Finset.univ) (Finset.subset_univ _)) $$ Hout; iintro Hout
  rw [write_out, wp_ret]; imodintro
  iapply Hk
  unfold bodyPost laneZero
  isplitl [HzB HzS0 HzV0 HzS1 HzV1]
  · isplitl [HzB]; · iexact HzB
    isplitl [HzS0 HzV0]
    · isplitl [HzS0] <;> iassumption
    · isplitl [HzS1] <;> iassumption
  isplitl [Hscr]; · iexists g; iexact Hscr
  isplitl [HO]; · iexact HO
  isplitl [Hx]; · iexact Hx
  iexact Hout

end Cert.KernelIdeal.Pair

end
-- ==== Proof.Ideal.Region.lean ====
/-
  The kernel's region: the body against the launch's proof data, and the region and the host line after it as the two
  segments of the program.
-/
module

public import proofs.«01_k».proof.Proof.Ideal.Talk
public import Idealize.ShloMosaic.Lib.Pipeline.ValueKit

@[expose] public section

noncomputable section

namespace Cert.KernelIdeal.Pair

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The body against the proof data -/

theorem owesAt_eq (c : Dev nD) (t : Fin (cfg0.N + 1)) :
    ((dats m 0 c).owesAt () t : sProp 𝕄) ⊣⊢ owesSome c ((dats m 0 c).owed t) := by
  unfold Dat.owesAt Pipeline.owesWithin owesSome
  constructor
  · iintro ⟨%W, -, HO⟩; iexists W; iexact HO
  · iintro ⟨%W, HO⟩; iexists W; isplitr; · ipureintro; exact fun _ _ => Or.inl trivial
    iexact HO

/-- What the proof data says before the one point. -/
def entered (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
/-- What it says after it. -/
def left (c : Dev nD) : sProp 𝕄 :=
  iprop(Φ₁ c ∗ (dats m 0 c).owesAt () t0_0.succ ∗ stg c cc0_stg0_0 (xstg m c) ∗ stg c cc0_stg1_0 (outAt m c))

theorem body_obligation (c : Dev nD) : BodyObligation (dats (F := F) m 0 c) (defs₀ (F := F)) 𝒱₀ () Set.univ := fun t => by
  rw [fin_N0 t]
  rw [bigSep_W0, bigSep_W0]
  simp only [owns_whole_eq]
  show entered m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => left m c)
  unfold entered Φ₀
  iintro ⟨⟨⟨⟨%K, Hg⟩, Hc, Hl⟩, Hscr, ⟨%r, Hr⟩⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  iapply (sound_body m K c fun _ => left m c)
  unfold bodyPre bodyPost left Φ₁
  isplitr [Hr]
  · isplitl [Hg Hc Hl]
    · isplitl [Hg]; · iexact Hg
      isplitl [Hc] <;> iassumption
    isplitl [Hscr]; · iexact Hscr
    isplitl [Ho]; · iapply (owesAt_eq m c t0_0.castSucc).1; iexact Ho
    isplitl [Hx]; · iexact Hx
    iexists g1; iexact Hout
  · iintro ⟨Hz, Hscr, HO, Hx, Hout⟩
    isplitl [Hz Hscr Hr]
    · isplitl [Hz]; · iexact Hz
      isplitl [Hscr]; · iexact Hscr
      iexists r; iexact Hr
    isplitl [HO]; · iapply (owesAt_eq m c t0_0.succ).2; iexact HO
    isplitl [Hx]
    · iexists _; isplitr; · (ipureintro; rfl)
      iexact Hx
    iexists _; isplitr; · (ipureintro; rfl)
    iexact Hout

/-! ## The arrays around the region -/

/-- Device `c`'s buffers at launch, and after the region. -/
abbrev V₀ (c : Dev nD) : Valuation τ sig (Elt F) := fun b => m (c, b)
def V₁ (c : Dev nD) : Valuation τ sig (Elt F) := Function.update (V₀ m c) (Proc.devRef .tc main_v1) (outAt m c)

theorem V₁_arg (c : Dev nD) : V₁ m c (Proc.devRef .tc main_arg0) = m ((c : Thread nD τ).loc main_arg0) :=
  Function.update_of_ne (by decide) _ _
theorem V₁_out (c : Dev nD) : V₁ m c (Proc.devRef .tc main_v1) = outAt m c := Function.update_self _ _ _
theorem V₁_res (c : Dev nD) : V₁ m c (Proc.devRef .tc main_v2) = V₀ m c (Proc.devRef .tc main_v2) :=
  Function.update_of_ne (by decide) _ _

theorem arr_entry (c : Dev nD) : ∀ w : Fin 2, (dats m 0 c).arrAt w 0 = V₀ m c (Proc.devRef .tc (Pipeline.arrRef spec0 w)) := by
  intro w; fin_cases w <;> rfl

/-- The result array after the region is the staged result. -/
theorem arr_out (c : Dev nD) : (dats m 0 c).arrAt (1 : Fin 2) cfg0.N = outAt m c := by
  refine (dats m 0 c).arrAt_eq_of_after_last (1 : Fin 2) t0_0 (by decide +kernel) _ fun j => ?_
  blk_simp
  rfl

theorem arr_exit (c : Dev nD) : ∀ w : Fin 2, (dats m 0 c).arrAt w cfg0.N = V₁ m c (Proc.devRef .tc (Pipeline.arrRef spec0 w)) := by
  intro w; fin_cases w
  · exact ((dats m 0 c).arrAt_in (0 : Fin 2) rfl _).trans (V₁_arg m c).symm
  · exact (arr_out m c).trans (V₁_out m c).symm

/-! ## The region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dats m 0

/-- The transfer semaphores, plane by plane. -/
def osem (k : Fin 2 × Fin 2) : SemLoc sig := .dma (slotS k.2 k.1)
theorem osem_facts : Pipeline.OwnSemFacts spec0 osem := by decide

theorem lanes_eq (c : Dev nD) : (Pipeline.ownSems0 osem c : sProp 𝕄) = iprop(laneZero c 0 ∗ laneZero c 1) := by
  unfold Pipeline.ownSems0
  rw [bigSep_univ_prod, BI.bigSep_fin_two, BI.bigSep_fin_two, BI.bigSep_fin_two]
  rfl

/-- Carried from launch to the region, and what the region makes of it. -/
def Tk (c : Dev nD) : sProp 𝕄 := iprop((∃ K, ghost m K c) ∗ creds c)
def Xk (c : Dev nD) : sProp 𝕄 := iprop((∃ K, opened m K c) ∗ creds c ∗ levAts L lv)
/-- Left by the region: the barrier's counter at zero. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  rw [lanes_eq]
  unfold Tk Xk ghost invs
  iintro ⟨⟨⟨%K, ⟨#HB, #HP, #HL0, #HL1⟩, Hb, ⟨HR0, HT0⟩, ⟨HR1, HT1⟩⟩, Hc⟩, ⟨Hz0, Hz1⟩, #Hlev⟩
  imod (open_lane m K c 0) $$ [HR0 Hz0] with HO0
  · isplitr; · iexact HL0
    isplitl [HR0] <;> iassumption
  imod (open_lane m K c 1) $$ [HR1 Hz1] with HO1
  · isplitr; · iexact HL1
    isplitl [HR1] <;> iassumption
  imodintro
  isplitl [Hb HO0 HT0 HO1 HT1]
  · iexists K; unfold opened invs
    isplitr
    · isplitr; · iexact HB
      isplitr; · iexact HP
      isplitr; · iexact HL0
      iexact HL1
    isplitl [Hb]; · iexact Hb
    isplitl [HO0 HT0]
    · isplitl [HO0] <;> iassumption
    · isplitl [HO1] <;> iassumption
  isplitl [Hc]; · iexact Hc
  iexact Hlev

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V₀ m c) ∗ Xk m c) ⊢ (pdats m 0 c).Φ 0 := by
  rw [show (pdats m 0 c).Φ 0 = Φ₀ m c from rfl,
    show Pipeline.scopedRest (Pipeline.pin (pcfgs (F := F)) adm 0).spec c = _ from scopedRest0_eq c, held_none]
  unfold Φ₀ Xk
  iintro ⟨Hs, Hp, -, Hk⟩
  isplitl [Hk]; · iexact Hk
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₁ m c) ∗ Pipeline.ownSems0 osem c ∗ Yk c) := by
  rw [show (pdats m 0 c).Φ (Fin.last (Pipeline.pin (pcfgs (F := F)) adm 0).N) = Φ₁ c from rfl,
    show Pipeline.scopedRest (Pipeline.pin (pcfgs (F := F)) adm 0).spec c = _ from scopedRest0_eq c, held_none, lanes_eq]
  unfold Φ₁ Yk
  iintro ⟨⟨Hb, Hz0, Hz1⟩, Hs, Hp⟩
  isplitl [Hs]; · iexact Hs
  isplitl [Hp]; · iexact Hp
  isplitr; · iempintro
  isplitl [Hz0 Hz1]
  · isplitl [Hz0] <;> iassumption
  iexact Hb

theorem cut_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rcases t with ⟨_ | t, ht⟩
  · rcases O₀_pos (c := c) h with ⟨k, rfl⟩ | rfl
    · exact ⟨mem_L_tc _ _, by cases i; rw [lv_land]; decide⟩
    · exact ⟨mem_L_tc _ _, by cases i; rw [lv_bar]; decide⟩
  · exact absurd h (Nat.lt_irrefl 0)

theorem share_eq (c : Dev nD) (w : Fin cfg0.W) : (dats m 0 c).share w = fullShare := by unfold Dat.share; split <;> rfl

theorem lv_stage : ∀ (w : Fin cfg0.W) (s : Fin (cfg0.win w).nbuf) (c : Dev nD), lv ((c : Thread nD τ), .dma ((cfg0.win w).sem s)) () ≤ 0 := by
  decide

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffer the region leaves alone. -/
abbrev kept : Finset (DevRef τ sig) := {Proc.devRef .tc main_v2}

set_option backward.isDefEq.respectTransparency.types false in
/-- The region: entered owing the launch's credits, left owing nothing. -/
def reg0 : ℝ𝕊 0 :=
  Pipeline.RegionSeg.ofTalk (pcfgs (F := F)) adm (pdats m) () defs₀ 𝒱₀ L lv 0 osem osem_facts
    ∅ kept (Finset.empty_subset _) launch0.toP rfl (fun c => (body_obligation m c).loose)
    (fun _ => 0) O₀ (fun c => (zero_add _).symm) (fun _ => rfl) (fun _ => rfl) (share_eq m)
    (V₀ m) (V₁ m) (fun c b hb => by
      rw [Finset.mem_singleton.mp (Finset.mem_sdiff.mp hb).1]; exact V₁_res m c)
    (Tk m) Yk (Xk m) Yk (hopen m) (hin m) (hout m)
    (fun c => by iintro H; imodintro; iexact H)
    (fun _ => 0)
    ⟨fun c _ _ => mem_L_tc c _, fun c w s => lv_stage w s c, fun c t g i h => cut_owed m c t g i h⟩
    (fun _ => iprop(emp))
    (arr_entry m) (arr_exit m)

/-! ## The host line after it -/

/-- The buffers that outlive the region. -/
def bufs : Finset (DevRef τ sig) := (StableHlo.tcRefs τ sig).filter fun b => ¬ b.isScoped

/-- Buffer `b` of device `c`, whole, at contents `X`. -/
abbrev pt (c : Dev nD) (b : Ref sig .tc) (X : Buf (Elt F) ((c : Thread nD τ).loc b)) : sProp 𝕄 := ((c : Thread nD τ).loc b) ↦{fullShare} X

theorem bufs_eq (c : Dev nD) (W : Valuation τ sig (Elt F)) : (StableHlo.held (c : Thread nD τ) bufs W : sProp 𝕄)
    = iprop(pt c main_arg0 (W (Proc.devRef .tc main_arg0)) ∗ pt c main_v1 (W (Proc.devRef .tc main_v1)) ∗ pt c main_v2 (W (Proc.devRef .tc main_v2))) := by
  unfold StableHlo.held
  rw [bigSep_eq_bigSepL_of_eq [Proc.devRef .tc main_arg0, Proc.devRef .tc main_v1, Proc.devRef .tc main_v2] (by decide) (by decide)]
  rfl

theorem arrs_eq (c : Dev nD) (W : Valuation τ sig (Elt F)) :
    (StableHlo.held (c.tc : Thread nD τ) (Pipeline.arrRefs (τ := τ) (pcfgs (F := F) 0).spec) W : sProp 𝕄)
      = iprop(pt c main_arg0 (W (Proc.devRef .tc main_arg0)) ∗ pt c main_v1 (W (Proc.devRef .tc main_v1))) := by
  unfold StableHlo.held
  rw [show Pipeline.arrRefs (τ := τ) (pcfgs (F := F) 0).spec = Pipeline.arrRefs (τ := τ) spec0 from rfl,
    bigSep_eq_bigSepL_of_eq [Proc.devRef .tc main_arg0, Proc.devRef .tc main_v1] (by decide) (by decide)]
  rfl
theorem kept_eq (c : Dev nD) (W : Valuation τ sig (Elt F)) :
    (StableHlo.held (c.tc : Thread nD τ) kept W : sProp 𝕄) = pt c main_v2 (W (Proc.devRef .tc main_v2)) := by
  unfold StableHlo.held; exact bigSep_singleton

theorem line_sub : ∀ op ∈ (hostOps1 : List (HloOp τ sig (Elt F))), op.bufs ⊆ bufs := fun op h => by
  simp only [hostOps1, List.mem_singleton] at h; subst h
  show ({Proc.devRef .tc main_v1, Proc.devRef .tc main_v2} : Finset (DevRef τ sig)) ⊆ bufs; decide
theorem line_fresh : ∀ op ∈ (hostOps1 : List (HloOp τ sig (Elt F))), op.fresh = ∅ := fun op h => by
  simp only [hostOps1, List.mem_singleton] at h; subst h; rfl

/-- Beside the buffers while the host line runs: the barrier's counter at zero, and nothing owed. -/
def R (c : Dev nD) : sProp 𝕄 := iprop(Yk c ∗ owesSome c 0)

/-- The host line: the result as one column. -/
def seg1 : ℍ := Pipeline.HostSeg.ofOps _ _ _ _ _ bufs hostOps1 line_sub line_fresh (V₁ m) (R (F := F))

/-- Device `c`'s buffers at the end. -/
abbrev V₂ (c : Dev nD) : Valuation τ sig (Elt F) := StableHlo.after hostOps1 (V₁ m c)

theorem V₂_arg (c : Dev nD) : V₂ m c (Proc.devRef .tc main_arg0) = m ((c : Thread nD τ).loc main_arg0) := by
  unfold V₂ hostOps1
  rw [StableHlo.after_cons, StableHlo.after_nil, StableHlo.reshape_result_ne' (h := by decide)]
  exact V₁_arg m c
theorem V₂_res (c : Dev nD) : V₂ m c (Proc.devRef .tc main_v2) = shapeCast S1536x1 (outAt m c) shapeCasts_S12x128_S1536x1 := by
  unfold V₂ hostOps1
  rw [StableHlo.after_cons, StableHlo.after_nil, StableHlo.reshape_result', V₁_out]
  rfl

theorem region_pre (c : Dev nD) : iprop(StableHlo.held (c : Thread nD τ) bufs (V₀ m c) ∗ Tk m c ∗ (∃ r, prngReg c r) ∗ owesSome c (O₀ c)) ⊢ (reg0 m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) kept (V₀ m c) ∗ emp) ∗ Tk m c ∗ ∃ Wd, owes (c : Thread nD τ) (0 + O₀ c) Wd)
  rw [bufs_eq, arrs_eq, kept_eq, zero_add]
  unfold owesSome
  iintro ⟨⟨Hx, Ho, Hr⟩, HT, Hp, HO⟩
  isplitl [Hx Ho]
  · isplitl [Hx] <;> iassumption
  isplitl [Hp]; · iexact Hp
  isplitl [Hr]
  · isplitl [Hr]; · iexact Hr
    iempintro
  isplitl [HT] <;> iassumption

theorem region_post (c : Dev nD) : (reg0 m).post c ⊢ (seg1 m).pre c := by
  show iprop(StableHlo.held (c.tc : Thread nD τ) (Pipeline.arrRefs (τ := τ) (pcfgs (F := F) 0).spec) (V₁ m c) ∗ (∃ r, prngReg c r)
    ∗ (StableHlo.held (c.tc : Thread nD τ) kept (V₁ m c) ∗ emp) ∗ Yk c ∗ ∃ Wd, owes (c : Thread nD τ) (0 : CellTallies nD τ sig Unit) Wd)
    ⊢ iprop(StableHlo.held (c : Thread nD τ) bufs (V₁ m c) ∗ R c)
  rw [bufs_eq, arrs_eq, kept_eq]
  unfold R owesSome
  iintro ⟨⟨Hx, Ho⟩, -, ⟨Hr, -⟩, Hb, HO⟩
  isplitl [Hx Ho Hr]
  · isplitl [Hx]; · iexact Hx
    isplitl [Ho] <;> iassumption
  isplitl [Hb] <;> iassumption

theorem main_eq (c : Dev nD) : main (F := F) c = Pipeline.Seg.run [.region (reg0 m), .host (seg1 m)] :=
  main_segs adm (pdats m) () 𝒱₀ L lv (seg1 m) (reg0 m) rfl c

end Cert.KernelIdeal.Pair

end
-- ==== Proof.Ideal.Run.lean ====
/-
  The launch: every cell's invariant is made and its rights are dealt to the devices, and the program is run from any
  memory with its counters at zero.
-/
module

public import proofs.«01_k».proof.Proof.Ideal.Region

@[expose] public section

noncomputable section

namespace Cert.KernelIdeal.Pair

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := by decide
theorem dev_of_cell {c d : Dev nD} {s s' : SemLoc sig} (h : (((c : Thread nD τ), s) : GSem nD τ sig) = ((d : Thread nD τ), s')) : c = d :=
  congrArg (fun g : GSem nD τ sig => g.1.1) h

def barEmb : Dev nD ↪ GSem nD τ sig := ⟨fun c => barCell c, fun _ _ h => dev_of_cell h⟩
def slotEmb : Dev nD × (Fin 2 × Fin 2) ↪ GSem nD τ sig :=
  ⟨fun ck => ((ck.1 : Thread nD τ), osem ck.2), fun _ _ h => Prod.ext (dev_of_cell h) (osem_inj (congrArg Prod.snd h))⟩
/-- The barrier cells, and the cells of the slots. -/
abbrev barCells : Finset (GSem nD τ sig) := Finset.univ.map barEmb
abbrev slotCells : Finset (GSem nD τ sig) := Finset.univ.map slotEmb

/-- A device's five cells. -/
abbrev cellSem : Fin 5 → SemLoc sig := fun | 0 => .reg barS | 1 => osem (0, 0) | 2 => osem (0, 1) | 3 => osem (1, 0) | 4 => osem (1, 1)
theorem cellSem_inj : Function.Injective cellSem := by decide
/-- One token a cell. -/
def talkToks : Finset (GSem nD τ sig × ℕ × Unit) :=
  Finset.univ.map ⟨fun ck : Dev nD × Fin 5 => (((ck.1 : Thread nD τ), cellSem ck.2), 0, ()), fun _ _ h =>
    Prod.ext (dev_of_cell (congrArg Prod.fst h)) (cellSem_inj (congrArg (fun t : GSem nD τ sig × ℕ × Unit => t.1.2) h))⟩

theorem cells_disjoint : Disjoint (barCells : Finset (GSem nD τ sig)) slotCells := by
  rw [Finset.disjoint_left]
  rintro g h₁ h₂
  obtain ⟨c, -, rfl⟩ := Finset.mem_map.mp h₁
  obtain ⟨ck, -, h⟩ := Finset.mem_map.mp h₂
  exact slot_ne_bar _ _ (congrArg Prod.snd h)

theorem bar_mem (c : Dev nD) : barCell c ∈ (barCells ∪ slotCells : Finset (GSem nD τ sig)) :=
  Finset.mem_union_left _ (Finset.mem_map_of_mem barEmb (Finset.mem_univ c))
theorem slot_mem (c : Dev nD) (p h : Fin 2) : slotCell c p h ∈ (barCells ∪ slotCells : Finset (GSem nD τ sig)) :=
  Finset.mem_union_right _ (Finset.mem_map_of_mem slotEmb (Finset.mem_univ (c, (h, p))))

def u₀ : UU :=
  (initOf (Pipeline.cells (Pipeline.pin (pcfgs (F := F)) adm) cellOf_inj) (Pipeline.launchToks (Pipeline.pin (pcfgs (F := F)) adm) cellOf_inj),
    launchOf barCells slotCells talkToks)

/-- What the launch element holds for the exchange, kept on one device until it is dealt. -/
def G (c : Dev nD) : sProp 𝕄 := if c = 0 then BI.own (ER (launchOf barCells slotCells talkToks)) else iprop(emp)
theorem G_all : bigSep Finset.univ (G (F := F)) = BI.own (ER (launchOf barCells slotCells talkToks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Dealing -/

/-- For every device to consult: all the invariants, and every barrier cell set up. -/
def records (κ : GSem nD τ sig → ℕ) : sProp 𝕄 :=
  iprop((bigSep (barCells ∪ slotCells) fun g => inv m κ g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ (barCells ∪ slotCells : Finset (GSem nD τ sig))) :
    (bigSep (barCells ∪ slotCells) fun g => (inv m κ g : sProp 𝕄)) ⊢ inv m κ g := bigSep_elim hg
theorem reached_at (c : Dev nD) : (bigSep barCells fun g => (reached ER g 0 : sProp 𝕄)) ⊢ reached ER (barCell c) 0 :=
  bigSep_elim (Finset.mem_map_of_mem barEmb (Finset.mem_univ c))

/-- For device `c` alone: its position on its barrier cell, its rights to set up its slots' cells, the tokens of what it pays. -/
def linear (c : Dev nD) : sProp 𝕄 :=
  iprop(atPos ER (barCell c) 0 ∅ 0 ∗ (laneRight c 0 ∗ laneRight c 1) ∗ (dutyTok ER (barCell (peer c)) 0 () ∗ laneTok c 0 ∗ laneTok c 1))

theorem lane_at (κ : GSem nD τ sig → ℕ) (c : Dev nD) (h : Fin 2) :
    (bigSep (barCells ∪ slotCells) fun g => (inv m κ g : sProp 𝕄)) ⊢ laneInv m κ c h := by
  unfold laneInv
  iintro #HI
  isplitr; · iapply (inv_at m κ (slot_mem c 0 h)); iexact HI
  isplitr; · iapply (inv_at m κ (slot_mem c 1 h)); iexact HI
  iapply (inv_at m κ (slot_mem (peer c) 1 h)); iexact HI

theorem ghost_intro (κ : GSem nD τ sig → ℕ) (c : Dev nD) : iprop(records m κ ∗ linear c) ⊢ iprop(∃ K, ghost m K c) := by
  unfold records linear ghost invs barGhost
  iintro ⟨⟨#HI, #HR⟩, HaB, ⟨HR0, HR1⟩, HtP, HT0, HT1⟩
  iexists κ
  isplitr
  · isplitr; · iapply (inv_at m κ (bar_mem c)); iexact HI
    isplitr; · iapply (inv_at m κ (bar_mem (peer c))); iexact HI
    isplitr; · iapply (lane_at m κ c 0); iexact HI
    iapply (lane_at m κ c 1); iexact HI
  isplitl [HaB HtP]
  · isplitl [HaB]; · iexact HaB
    isplitr; · iapply (reached_at (F := F) (peer c)); iexact HR
    iexact HtP
  isplitl [HR0 HT0]
  · isplitl [HR0] <;> iassumption
  · isplitl [HR1] <;> iassumption

/-- Device `c`'s five tokens. -/
def toks (c : Dev nD) : sProp 𝕄 :=
  iprop(dutyTok ER (barCell c) 0 () ∗ (dutyTok ER (slotCell c 0 0) 0 () ∗ dutyTok ER (slotCell c 1 0) 0 ())
    ∗ (dutyTok ER (slotCell c 0 1) 0 () ∗ dutyTok ER (slotCell c 1 1) 0 ()))

theorem toks_split : bigSep talkToks (fun x => (dutyTok ER x.1 x.2.1 x.2.2 : sProp 𝕄)) ⊢ bigSep Finset.univ fun c : Dev nD => toks c := by
  unfold talkToks; rw [bigSep_map, bigSep_univ_prod]
  refine bigSep_mono fun c _ => ?_
  rw [bigSep_univ_eq_bigSepL [(0 : Fin 5), 1, 2, 3, 4] (by decide) (by decide)]
  show iprop(dutyTok ER (barCell c) 0 () ∗ dutyTok ER (slotCell c 0 0) 0 () ∗ dutyTok ER (slotCell c 1 0) 0 ()
    ∗ dutyTok ER (slotCell c 0 1) 0 () ∗ dutyTok ER (slotCell c 1 1) 0 ()) ⊢ toks c
  unfold toks
  iintro ⟨Hb, H00, H10, H01, H11⟩
  isplitl [Hb]; · iexact Hb
  isplitl [H00 H10]
  · isplitl [H00] <;> iassumption
  · isplitl [H01] <;> iassumption

/-- The tokens at barriers and at landing slots, each handed to the pair. -/
theorem toks_around : (bigSep Finset.univ fun c : Dev nD => (toks c : sProp 𝕄))
    ⊢ bigSep Finset.univ fun c : Dev nD => iprop(dutyTok ER (barCell (peer c)) 0 () ∗ laneTok c 0 ∗ laneTok c 1) := by
  unfold toks laneTok
  simp only [bigSep_sep']
  rw [bigSep_univ_equiv swap (fun c : Dev nD => (dutyTok ER (barCell c) 0 () : sProp 𝕄)),
    bigSep_univ_equiv swap (fun c : Dev nD => (dutyTok ER (slotCell c 1 0) 0 () : sProp 𝕄)),
    bigSep_univ_equiv swap (fun c : Dev nD => (dutyTok ER (slotCell c 1 1) 0 () : sProp 𝕄))]
  exact BI.Entails.refl _

/-! ## The launch credit -/

theorem peer_inj {c d : Dev nD} (h : peer c = peer d) : c = d := by rw [← peer_peer c, h, peer_peer]

/-- What all devices owe one cell of a device's pair, when each owes `n` there to its own pair alone. -/
theorem launch_cell (c : Dev nD) (s : SemLoc sig) (n : ℕ) (h : ∀ d : Dev nD, O₀ d ((c : Thread nD τ), s) () = if d = peer c then n else 0) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

/-- One tally at a cell of the pair, read at a cell. -/
theorem tally_read (d c : Dev nD) (s s' : SemLoc sig) (n : ℕ) :
    (tallyAt ((peer d : Thread nD τ), s) () n : CellTallies nD τ sig Unit) ((c : Thread nD τ), s') () = if d = peer c ∧ s' = s then n else 0 := by
  rw [tallyAt_apply]
  by_cases h : d = peer c ∧ s' = s
  · rw [if_pos h, if_pos ⟨by rw [h.1, h.2, peer_peer], rfl⟩]
  · rw [if_neg h, if_neg fun e => h ⟨by rw [dev_of_cell e.1, peer_peer], congrArg Prod.snd e.1⟩]

theorem owed_read (d c : Dev nD) (s : SemLoc sig) : O₀ d ((c : Thread nD τ), s) ()
    = (if d = peer c ∧ s = .dma (slotS 1 1) then N else 0) + (if d = peer c ∧ s = .dma (slotS 1 0) then N else 0)
      + (if d = peer c ∧ s = .reg barS then 1 else 0) := by
  unfold O₀ O₁
  rw [Pi.add_apply, Finsupp.add_apply, Pi.add_apply, Finsupp.add_apply, tally_read, tally_read, tally_read]

theorem creds_intro (c : Dev nD) : (Pipeline.launchCred O₀ c : sProp 𝕄) ⊢ creds c := by
  unfold Pipeline.launchCred creds
  have hb : ∀ d : Dev nD, O₀ d (barCell c) () = if d = peer c then 1 else 0 := fun d => by
    rw [owed_read, if_neg fun h => absurd h.2 (by decide), if_neg fun h => absurd h.2 (by decide)]; simp
  have h0 : ∀ d : Dev nD, O₀ d (slotCell c 1 0) () = if d = peer c then N else 0 := fun d => by
    rw [owed_read, if_neg fun h => absurd h.2 (by decide), if_neg (c := _ ∧ _ = SemLoc.reg barS) fun h => absurd h.2 (by decide)]; simp
  have h1 : ∀ d : Dev nD, O₀ d (slotCell c 1 1) () = if d = peer c then N else 0 := fun d => by
    rw [owed_read, if_neg (c := _ ∧ _ = SemLoc.reg barS) fun h => absurd h.2 (by decide),
      if_neg (c := _ ∧ _ = SemLoc.dma (slotS 1 0)) fun h => absurd h.2 (by decide)]; simp
  rw [bigSep_univ_at _ (SemLoc.reg barS), launch_cell c _ 1 hb, ← launch_cell c _ N h0, ← launch_cell c _ N h1]
  refine sep_mono_right ?_
  rw [show ∀ Φ : SemLoc sig → sProp 𝕄, bigSep (Finset.univ.erase (SemLoc.reg barS)) Φ
      = iprop(Φ (.dma (slotS 1 0)) ∗ bigSep ((Finset.univ.erase (SemLoc.reg barS)).erase (.dma (slotS 1 0))) Φ)
    from fun Φ => BI.bigSep_erase (Finset.mem_erase.mpr ⟨by decide, Finset.mem_univ _⟩)]
  refine sep_mono_right ?_
  exact bigSep_elim (Finset.mem_erase.mpr ⟨by decide, Finset.mem_erase.mpr ⟨by decide, Finset.mem_univ _⟩⟩)

/-! ## The run -/

abbrev T₀ (c : Dev nD) : sProp 𝕄 := iprop(StableHlo.held (c : Thread nD τ) bufs (V₀ m c) ∗ Tk m c ∗ (∃ r, prngReg c r) ∗ owesSome c (O₀ c))
abbrev Tₙ (c : Dev nD) : sProp 𝕄 := iprop(StableHlo.held (c : Thread nD τ) bufs (V₂ m c) ∗ Yk c)

theorem held_unscoped (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sem : ∀ sm : SemLoc sig, sm.isScoped .tc = false → sm = .reg barS := by decide
theorem held_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device has at launch that is not the exchange's. -/
def bundle (c : Dev nD) : sProp 𝕄 :=
  iprop(StableHlo.held (c : Thread nD τ) bufs (V₀ m c) ∗ creds c ∗ (∃ r, prngReg c r) ∗ owesSome c (O₀ c))

theorem T₀_intro (κ : GSem nD τ sig → ℕ) (c : Dev nD) : iprop(records m κ ∗ (linear c ∗ bundle m c)) ⊢ T₀ m c := by
  unfold bundle T₀ Tk
  iintro ⟨#HR, Hl, Hh, Hc, Hp, HO⟩
  isplitl [Hh]; · iexact Hh
  isplitl [Hl Hc]
  · isplitl [Hl]
    · iapply (ghost_intro m κ c)
      isplitr; · iexact HR
      iexact Hl
    iexact Hc
  isplitl [Hp] <;> iassumption

/-- One device's holdings at launch, sorted. -/
theorem sort_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (V₀ m c) from held_unscoped c (V₀ m c),
    held_sems]
  unfold bundle owesSome
  iintro ⟨Hh, Hus, HO, Hcr, Hp, HG⟩
  isplitl [Hh Hcr HO Hp]
  · isplitl [Hh]; · iexact Hh
    isplitl [Hcr]; · iapply (creds_intro (F := F) c); iexact Hcr
    isplitl [Hp]; · iexists (ρ c); iexact Hp
    iexists ∅; iexact HO
  isplitl [Hus] <;> iassumption

theorem bars_map (Φ : GSem nD τ sig → sProp 𝕄) : bigSep barCells Φ = bigSep Finset.univ fun c : Dev nD => Φ (barCell c) := bigSep_map _
theorem rights_map : bigSep slotCells (fun g => (openTok ER g : sProp 𝕄)) = bigSep Finset.univ fun c : Dev nD => iprop(laneRight c 0 ∗ laneRight c 1) := by
  rw [bigSep_map, bigSep_univ_prod]
  refine bigSep_congr fun c _ => ?_
  rw [bigSep_univ_prod, BI.bigSep_fin_two, BI.bigSep_fin_two, BI.bigSep_fin_two]
  rfl

/-- All devices' holdings at launch become what each starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => sort_core m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (G_all (F := F))) $$ HG
  imod (Rounds.fund_launch ER (talkRd m) cells_disjoint (fun g _ h => h) talkToks) $$ [Hv Hu] with ⟨%κ, -, #Hinv, #Hr, Hat, Hopen, Htok⟩
  · isplitl [Hv]
    · iapply (Entails.of_eq (bars_map (F := F) fun g => semVal g 0).symm) $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply (Entails.of_eq (bars_map (F := F) fun g => atPos ER g 0 ∅ 0)) $$ Hat
    iapply (Entails.of_eq (bigSep_sep' _ _ _).symm); isplitl [Hopen]; · iapply (Entails.of_eq (rights_map (F := F))) $$ Hopen
    iapply (toks_around (F := F))
    iapply (toks_split (F := F)) $$ Htok
  · iexact HB

set_option backward.isDefEq.respectTransparency.types false in
/-- From any memory with its counters at zero: the program ends on every device, `x` is unchanged, the result is the stored
    block as one column, and every counter is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = shapeCast S1536x1 (outAt m c) shapeCasts_S12x128_S1536x1) ∧ r.2.sem = fun _ => 0) :=
  Pipeline.θ_run_regions_kit_sems (pcfgs (F := F)) adm (pdats m) () cellOf_inj EP defs₀ 𝒱₀ L lv m ρ main [.region (reg0 m), .host (seg1 m)]
    (fun c Q => by rw [main_eq m c])
    (by simp only [Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => region_pre m c, fun c => region_post m c, fun c => ?_⟩
      show iprop(StableHlo.held (c : Thread nD τ) bufs (V₂ m c) ∗ R c)
        ⊢ iprop(Tₙ m c ∗ ∃ W, owes (c : Thread nD τ) (0 : CellTallies nD τ sig Unit) W)
      unfold R owesSome
      iintro ⟨Hh, Hb, HO⟩
      isplitr [HO]
      · isplitl [Hh] <;> iassumption
      · iexact HO)
    (hinit := init m ρ)
    (QY := fun c s => (s.mem ((c : Thread nD τ).loc main_arg0) = V₂ m c (Proc.devRef .tc main_arg0)
        ∧ s.mem ((c : Thread nD τ).loc main_v2) = V₂ m c (Proc.devRef .tc main_v2)) ∧ s.sem (barCell c) = 0)
    (hfin := fun c s' => by
      dsimp only [Tₙ]; unfold Yk; rw [bufs_eq]
      iintro ⟨⟨⟨Hx, -, Hy⟩, Hb0⟩, HSI⟩
      icombine HSI Hx gives %hx
      icombine HSI Hy gives %hy
      icombine HSI Hb0 gives %hb
      imodintro
      isplitr
      · ipureintro
        exact ⟨⟨Buf.eq_of_forall_mem_univ hx, Buf.eq_of_forall_mem_univ hy⟩, by simpa using hb⟩
      iexact HSI)
    (hQ := fun s h hs => ⟨fun c => ⟨(h c).1.1.trans (V₂_arg m c), (h c).1.2.trans (V₂_res m c)⟩,
      sem_eq_zero hs fun c sm hsm => by
        obtain rfl := unscoped_sem sm hsm
        exact (h c).2⟩)

end Cert.KernelIdeal.Pair

end
-- ==== Proof.Value.Max.lean ====
/-
  The greatest element of a row cut in two: of `2 n` columns, the greatest of the columns of one half and the greatest of
  the columns of the other have, between them, the greatest of all.
-/
module

public import Mathlib.Data.EReal.Basic
public import Mathlib.Data.Finset.Fold
public import Mathlib.Data.Fintype.Basic

@[expose] public section

namespace Cert.RowMax

/-- Column `k` of half `b` of `2 n` columns. -/
def col {n : ℕ} (b : Fin 2) (k : Fin n) : Fin (2 * n) :=
  ⟨b.val * n + k.val, by
    have hb := b.isLt
    have hk := k.isLt
    rcases (show b.val = 0 ∨ b.val = 1 by omega) with h | h <;> rw [h] <;> omega⟩

/-- Every column is in one of any two different halves. -/
theorem exists_col {n : ℕ} {b b' : Fin 2} (h : b ≠ b') (x : Fin (2 * n)) : (∃ k, x = col b k) ∨ ∃ k, x = col b' k := by
  have hx := x.isLt
  have key : ∀ d : Fin 2, (d.val = if x.val < n then 0 else 1) → ∃ k, x = col d k := fun d hd => by
    by_cases hn : x.val < n
    · rw [if_pos hn] at hd
      exact ⟨⟨x.val, hn⟩, Fin.ext (by show x.val = d.val * n + x.val; rw [hd]; omega)⟩
    · rw [if_neg hn] at hd
      exact ⟨⟨x.val - n, by omega⟩, Fin.ext (by show x.val = d.val * n + (x.val - n); rw [hd]; omega)⟩
  have hne : b.val ≠ b'.val := fun e => h (Fin.ext e)
  have hb := b.isLt
  have hb' := b'.isLt
  by_cases hn : x.val < n
  · by_cases h0 : b.val = 0
    · exact .inl (key b (by rw [if_pos hn]; exact h0))
    · exact .inr (key b' (by rw [if_pos hn]; omega))
  · by_cases h0 : b.val = 1
    · exact .inl (key b (by rw [if_neg hn]; exact h0))
    · exact .inr (key b' (by rw [if_neg hn]; omega))

/-- The maximum of a row is the greater of the maxima of its two halves, in either order. -/
theorem fold_halves {n : ℕ} (e : EReal) (f : Fin (2 * n) → EReal) {b b' : Fin 2} (h : b ≠ b') :
    max (Finset.univ.fold max e fun k => f (col b k)) (Finset.univ.fold max e fun k => f (col b' k)) = Finset.univ.fold max e f := by
  refine eq_of_forall_ge_iff fun c => ?_
  rw [max_le_iff, Finset.fold_max_le, Finset.fold_max_le, Finset.fold_max_le]
  constructor
  · rintro ⟨⟨he, h1⟩, -, h2⟩
    refine ⟨he, fun x _ => ?_⟩
    rcases exists_col h x with ⟨k, rfl⟩ | ⟨k, rfl⟩
    · exact h1 k (Finset.mem_univ _)
    · exact h2 k (Finset.mem_univ _)
  · rintro ⟨he, h1⟩
    exact ⟨⟨he, fun k _ => h1 _ (Finset.mem_univ _)⟩, he, fun k _ => h1 _ (Finset.mem_univ _)⟩

end Cert.RowMax

end
-- ==== Proof.Value.Kernel.lean ====
/-
  The kernel's result over the extended reals: element `i` of device `c`'s result is the greater of two row maxima, that of
  row `i` of its own block and that of row `i` of its pair's block.
-/
module

public import proofs.«01_k».proof.Proof.Ideal.Slots
public import Idealize.ShloMosaic.Lib.Pointwise
public import Idealize.ShloMosaic.Lib.Pipeline.Value

@[expose] public section

noncomputable section

namespace Cert.KernelIdeal.Pair

open Cert.KernelIdeal Cert.KernelIdeal.Gen
open Idealize.ShloMosaic
open Idealize.ShloMosaic.TcCoe
open Idealize.SL.Sem

/-- The maximum of `n` elements, from negative infinity. -/
abbrev top {n : ℕ} (f : Fin n → EReal) : EReal := Finset.univ.fold max (FloatOps.ofBits (F := Ideal) .f32 0xFF800000#32) f

/-- Element `(r, l)` of the stored row maxima of 768 rows is the maximum of row `128 r + l`. -/
theorem pay_apply (v : Vec Ideal S768x768 .f32) (j : S1x6x128.Idx) (a : Fin 768) (ha : a.val = 128 * (j 1).val + (j 2).val) :
    k0_pay2 v j = top fun k : Fin 768 => v (ix2 a k) := by
  have j0 : (j 0).val < 1 := (j 0).isLt
  unfold k0_pay2
  dsimp only
  rw [shapeCast_apply _ shapeCasts_S6x128_S1x6x128 j (ix2 (j 1) (j 2)) (by
      rw [Shape.rowMajor_val_two, Shape.rowMajor_val_three]; simp [ix2]),
    shapeCast_apply _ shapeCasts_S768_S6x128 _ (ix1 a) (by
      rw [Shape.rowMajor_val_one, Shape.rowMajor_val_two]; simp [ix1, ix2]; omega)]
  refine (Ideal.multiReduction_maximumf_single _ _ reduces_S768x768_S768 (.inl rfl) rfl (ix1 a)).trans ?_
  refine congrArg (Finset.fold max _ · _) (funext fun k => ?_)
  show shapeCast S768x768 v shapeCasts_S768x768_S768x768 (reduces_S768x768_S768.lift (ix1 a) k) = _
  refine shapeCast_apply _ _ _ _ (congrArg (fun y => (S768x768.rowMajor y).val) (funext fun x => ?_))
  match x with
  | 0 => rfl
  | 1 => rfl

variable (m : (ℓ : Loc nD τ sig) → Buf (Elt Ideal) ℓ)

/-- Device `d`'s block of `x`. -/
abbrev blk (d : Dev nD) : S1536x768.Idx → EReal := m ((d : Thread nD τ).loc main_arg0)

/-- The staged block is the whole of it. -/
theorem xstg_eq (d : Dev nD) : xstg m d = blk m d :=
  Memref.read_access_unit_zero (Elt Ideal) main_arg0 (funext fun a => by fin_cases a <;> rfl) _ _

/-- Row `a` of half `h` is row `768 h + a` of the block. -/
theorem half_apply (d : Dev nD) (h : Fin 2) (a k : Fin 768) (b : Fin 1536) (hb : b.val = 768 * h.val + a.val) :
    half m d h (ix2 a k) = blk m d (ix2 b k) := by
  have e (x : Fin 2) := ValueKit.rect_emb_unit_val (s := S1536x768) ![768 * h.val, 0] S768x768.size (inb_half h) (ix2 a k) x
  unfold half
  rw [xstg_eq]
  show blk m d ((Rect.unit (s := S1536x768) ![768 * h.val, 0] S768x768.size (inb_half h)).emb (ix2 a k)) = _
  refine congrArg (blk m d) (funext fun x => ?_)
  match x with
  | 0 => exact Fin.ext ((e 0).trans hb.symm)
  | 1 => exact Fin.ext ((e 1).trans (Nat.zero_add _))

/-- The stored row maxima of either half. -/
theorem part_apply (d : Dev nD) (h : Fin 2) (j : S1x6x128.Idx) (b : Fin 1536) (hb : b.val = 768 * h.val + 128 * (j 1).val + (j 2).val) :
    part m d h j = top fun k : Fin 768 => blk m d (ix2 b k) := by
  have j1 : (j 1).val < 6 := (j 1).isLt
  have j2 : (j 2).val < 128 := (j 2).isLt
  have e : part m d h = k0_pay2 (half m d h) := by
    match h with
    | 0 => rfl
    | 1 => rfl
  rw [e, pay_apply _ j ⟨128 * (j 1).val + (j 2).val, by omega⟩ rfl]
  refine congrArg (Finset.fold max _ · _) (funext fun k => half_apply m d h _ k b (by rw [hb]; show _ = _ + (_ + _); omega))

/-- The word of row `r`, lane `l` is the maximum of row `128 r + l` of the block. -/
theorem word_apply (d : Dev nD) (r : ℕ) (hr : r < 12) (l : Fin 128) (b : Fin 1536) (hb : b.val = 128 * r + l.val) :
    word m d r l = top fun k : Fin 768 => blk m d (ix2 b k) := by
  refine part_apply m d _ (at6 r l) b ?_
  show b.val = 768 * (r / 6 % 2) + 128 * (r % 6) + l.val
  omega

/-- Element `i` of device `c`'s result. -/
theorem out_apply (c : Dev nD) (i : S1536x1.Idx) :
    shapeCast S1536x1 (outAt m c) shapeCasts_S12x128_S1536x1 i
      = max (top fun k : Fin 768 => blk m c (ix2 (i 0) k)) (top fun k : Fin 768 => blk m (peer c) (ix2 (i 0) k)) := by
  have i0 : (i 0).val < 1536 := (i 0).isLt
  have i1 : (i 1).val < 1 := (i 1).isLt
  let r : Fin 12 := ⟨(i 0).val / 128, by omega⟩
  let l : Fin 128 := ⟨(i 0).val % 128, by omega⟩
  have hrl : (i 0).val = 128 * r.val + l.val := by show (i 0).val = 128 * ((i 0).val / 128) + (i 0).val % 128; omega
  rw [shapeCast_apply _ shapeCasts_S12x128_S1536x1 i (ix2 r l) (by
      rw [Shape.rowMajor_val_two, Shape.rowMajor_val_two]; simp [ix2]; omega)]
  have p (q : Fin 2) : shapeCast S12x128 (plane m c q) shapeCasts_S1x12x128_S12x128 (ix2 r l)
      = top fun k : Fin 768 => blk m (if q.val = 0 then c else peer c) (ix2 (i 0) k) := by
    rw [shapeCast_apply _ shapeCasts_S1x12x128_S12x128 (ix2 r l) (ix3 (0 : Fin 1) r l) (by
        rw [Shape.rowMajor_val_two, Shape.rowMajor_val_three]; simp [ix2, ix3]), plane_apply]
    exact word_apply m _ r.val r.isLt l (i 0) hrl
  exact congrArg₂ (max (α := EReal)) (p 0) (p 1)

end Cert.KernelIdeal.Pair

end
-- ==== Proof.Value.Reference.lean ====
/-
  The reference's result over the extended reals: element `i` is the maximum of row `i` of the whole array, all its columns.
-/
module

public import proofs.«01_k».proof.Proof.Gen.ReferenceIdeal
public import Idealize.ShloMosaic.Lib.Pointwise
public import Idealize.ShloMosaic.Lib.Pipeline.Value

@[expose] public section

noncomputable section

namespace Cert.ReferenceIdeal.RowMax

open Cert.ReferenceIdeal Cert.ReferenceIdeal.Gen
open Idealize.ShloMosaic

/-- The reference's result of `x`. -/
abbrev rowMax (x : FVec Ideal S3072x1536 .f32) : FVec Ideal S3072x1 .f32 :=
  broadcastInDim S3072x1 ![0] bcast_S3072_S3072x1_0
    (Host.reduce FloatOps.maximumf x (constant S_ .f32 0xFF800000#32) reducesTo_S3072x1536_S3072_d1 h_S_)

/-- Element `i` of the result is the maximum of row `i`. -/
theorem rowMax_apply (x : FVec Ideal S3072x1536 .f32) (i : S3072x1.Idx) :
    rowMax x i
      = Finset.univ.fold max (FloatOps.ofBits (F := Ideal) .f32 0xFF800000#32) fun k : Fin 1536 => x (ix2 (i 0) k) := by
  have hr : S3072x1536.Reduces [1] S3072 := by decide
  refine (Host.reduce_eq_fold_single (FloatOps.maximumf (F := Ideal) (φ := .f32)) x _ reducesTo_S3072x1536_S3072_d1 hr h_S_ _).trans ?_
  refine congrArg (Finset.fold max _ · _) (funext fun k => congrArg x (funext fun a => ?_))
  match a with
  | 0 => rfl
  | 1 => rfl

end Cert.ReferenceIdeal.RowMax

end
-- ==== Proof.Value.Agree.lean ====
/-
  The two results agree: where every device's argument is its block of the whole array, every device's result is its block of
  the reference's. A device and its pair hold the two column halves of the same rows.
-/
module

public import proofs.«01_k».proof.Proof.Value.Max
public import proofs.«01_k».proof.Proof.Value.Kernel
public import proofs.«01_k».proof.Proof.Value.Reference
public import Idealize.ShloMosaic.Lib.Layout

@[expose] public section

noncomputable section

namespace Cert.KernelIdeal.Pair

open Cert.KernelIdeal Cert.KernelIdeal.Gen
open Idealize.ShloMosaic
open Idealize.ShloMosaic.TcCoe
open Idealize.SL.Sem
open Cert.ReferenceIdeal.RowMax (rowMax rowMax_apply)

/-- The column half a device holds. -/
def side (c : Dev nD) : Fin 2 := ⟨c.val % 2, Nat.mod_lt _ (by decide)⟩
/-- A device and its pair hold different column halves. -/
theorem side_ne (c : Dev nD) : side c ≠ side (peer c) := by revert c; decide
/-- A device and its pair hold the same rows. -/
theorem peer_row (c : Dev nD) : (peer c).val / 2 = c.val / 2 := by revert c; decide

/-- Device `d`'s block of the whole array: rows `1536 (d / 2)` on, the columns of its half. -/
theorem block_apply (X : FVec Ideal ⟨2, ![3072, 1536]⟩ .f32) (d : Dev nD) (b : Fin 1536) (k : Fin 768) (r : Fin 3072)
    (hr : r.val = 1536 * (d.val / 2) + b.val) :
    Layout.blockN ⟨2, ![1536, 768]⟩ ⟨2, ![3072, 1536]⟩ (Layout.meshBlock [2, 2] ![[0], [1]] d) X (by decide) (ix2 b k)
      = X (ix2 r (RowMax.col (side d) k : Fin (2 * 768))) := by
  have hd : d.val < 4 := d.isLt
  rw [Layout.blockN_apply]
  refine congrArg X (funext fun a => ?_)
  match a with
  | 0 => exact Fin.ext (by
      show (d.val / 2 % 2 * 1 + 0) * 1536 + b.val = r.val
      omega)
  | 1 => exact Fin.ext (by
      show (d.val / 1 % 2 * 1 + 0) * 768 + k.val = d.val % 2 * 768 + k.val
      omega)

/-- Every device's result is its block of the reference's. -/
theorem agree (m : (ℓ : Loc nD τ sig) → Buf (Elt Ideal) ℓ) (X : FVec Ideal ⟨2, ![3072, 1536]⟩ .f32)
    (hX : ∀ c : Dev nD, m ((c : Thread nD τ).loc main_arg0)
      = Layout.blockN ⟨2, ![1536, 768]⟩ ⟨2, ![3072, 1536]⟩ (Layout.meshBlock [2, 2] ![[0], [1]] c) X) (c : Dev nD) :
    shapeCast S1536x1 (outAt m c) shapeCasts_S12x128_S1536x1
      = Layout.blockN ⟨2, ![1536, 1]⟩ ⟨2, ![3072, 1]⟩ (Layout.meshBlock [2, 2] ![[0], []] c) (rowMax X) := by
  funext i
  have i0 : (i 0).val < 1536 := (i 0).isLt
  have hc : c.val < 4 := c.isLt
  let r : Fin 3072 := ⟨1536 * (c.val / 2) + (i 0).val, by omega⟩
  have own (d : Dev nD) (hd : d.val / 2 = c.val / 2) :
      (top fun k : Fin 768 => blk m d (ix2 (i 0) k)) = top fun k : Fin 768 => X (ix2 r (RowMax.col (side d) k : Fin (2 * 768))) :=
    congrArg (Finset.fold max _ · _) (funext fun k => by
      unfold blk
      rw [hX]
      exact block_apply X d (i 0) k r (by rw [hd]))
  rw [out_apply, own c rfl, own (peer c) (peer_row c), Layout.blockN_apply, rowMax_apply]
  refine (RowMax.fold_halves _ (fun k : Fin (2 * 768) => X (ix2 r k)) (side_ne c)).trans ?_
  refine congrArg (Finset.fold max _ · _) (funext fun k => congrArg X (funext fun a => ?_))
  match a with
  | 0 => exact Fin.ext (by
      show 1536 * (c.val / 2) + (i 0).val = (c.val / 2 % 2 * 1 + 0) * 1536 + (i 0).val
      omega)
  | 1 => rfl

end Cert.KernelIdeal.Pair

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Value.Agree
public import Idealize.ShloMosaic.Adequacy
public import Idealize.ShloMosaic.Init

@[expose] public section

noncomputable section

namespace Cert.Proof

open Idealize.ShloMosaic Idealize.SL.Sem

/-- The kernel over bit-exact floats ends with its argument unchanged and every counter at zero. -/
theorem frame_kernel : Cert.quiescent_Kernel := fun m ρ _ =>
  (θ_run Cert.Kernel.defs _ _).mono (fun _ h => ⟨fun c => (h.1 c).1, h.2⟩) (Cert.Kernel.Pair.run_main m ρ)

/-- The kernel over the extended reals ends with its argument unchanged and every counter at zero. -/
theorem frame_kernelIdeal : Cert.quiescent_KernelIdeal := fun m ρ _ =>
  (θ_run Cert.KernelIdeal.defs _ _).mono (fun _ h => ⟨fun c => (h.1 c).1, h.2⟩) (Cert.KernelIdeal.Pair.run_main m ρ)

/-- The reference ends with its argument unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- Every device's result is its block of the reference's row maxima. -/
theorem algebraic : Cert.algebraic_KernelIdeal_ReferenceIdeal := fun m ρ _ ρ' _ hX =>
  ⟨Cert.ReferenceIdeal.RowMax.rowMax _,
    (θ_run Cert.KernelIdeal.defs _ _).mono
      (fun _ h c => ⟨(h.1 c).2.trans (Cert.KernelIdeal.Pair.agree m _ hX c), (h.1 c).1⟩) (Cert.KernelIdeal.Pair.run_main m ρ),
    (θ_run Cert.ReferenceIdeal.defs _ _).mono (fun _ h => h 0) (Cert.ReferenceIdeal.Value.run _ ρ')⟩

/-- The certificate's five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
